-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x512 : Shape := ⟨2, ![768, 512]⟩
abbrev S2x2048x8x64 : Shape := ⟨4, ![2, 2048, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_

variable [Facts]

def fn {F : FTy → Type} [FloatOps F] (main_arg0 : FVec F S2x512x768 .f32) (main_arg1 : FVec F S768x512 .f32) (main_arg2 : FVec F S2x2048x8x64 .f32) (main_arg3 : FVec F S2x2048x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S4x512x256 : Shape := ⟨3, ![4, 512, 256]⟩
abbrev S2x128x8x64 : Shape := ⟨4, ![2, 128, 8, 64]⟩
abbrev S2 : Shape := ⟨1, ![2]⟩
abbrev S8 : Shape := ⟨1, ![8]⟩
abbrev S4 : Shape := ⟨1, ![4]⟩
abbrev S_ : Shape := ⟨0, ![]⟩
abbrev S1 : Shape := ⟨1, ![1]⟩
abbrev S1x512x256 : Shape := ⟨3, ![1, 512, 256]⟩
abbrev S512x256 : Shape := ⟨2, ![512, 256]⟩
abbrev S256x768 : Shape := ⟨2, ![256, 768]⟩
abbrev S1x512x768 : Shape := ⟨3, ![1, 512, 768]⟩
abbrev S512x512 : Shape := ⟨2, ![512, 512]⟩
abbrev S512x128 : Shape := ⟨2, ![512, 128]⟩
abbrev S1x512x8x64 : Shape := ⟨4, ![1, 512, 8, 64]⟩
abbrev S512x8x64 : Shape := ⟨3, ![512, 8, 64]⟩
abbrev S1x128x8x64 : Shape := ⟨4, ![1, 128, 8, 64]⟩
abbrev S128x8x64 : Shape := ⟨3, ![128, 8, 64]⟩
abbrev S128x512 : Shape := ⟨2, ![128, 512]⟩
abbrev S512x64 : Shape := ⟨2, ![512, 64]⟩
abbrev S128x64 : Shape := ⟨2, ![128, 64]⟩
abbrev S512 : Shape := ⟨1, ![512]⟩
abbrev S512x1 : Shape := ⟨2, ![512, 1]⟩
abbrev S1x512x64 : Shape := ⟨3, ![1, 512, 64]⟩

abbrev nBuf : Space → Nat
  | .hbm => 6
  | .vmem => 9
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S4x512x256, .f32⟩
  | .local _ .vmem, ⟨7, _⟩ => ⟨S2x128x8x64, .f32⟩
  | .local _ .vmem, ⟨8, _⟩ => ⟨S2x128x8x64, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v12 : BitVec 1 := Scalar.cmpi .eq v2 c1_i32_14
  let v13 : BitVec 32 := Scalar.extui v12
  let c0_i32_15 : BitVec 32 := 0#32
  let v14 : BitVec 1 := Scalar.cmpi .ne v13 c0_i32_15
  v14

def k0_dev5 : Nat :=
  let c0_i32_41 : BitVec 32 := 0#32
  let c0_i32_39 : BitVec 32 := 0#32
  let c1_i32_40 : BitVec 32 := 1#32
  let v34 : BitVec 32 := Scalar.muli c0_i32_39 c1_i32_40
  let v35 : BitVec 32 := Scalar.addi c0_i32_41 v34
  v35.toNat
def k0_dev6 : Nat :=
  let c0_i32_46 : BitVec 32 := 0#32
  let c0_i32_44 : BitVec 32 := 0#32
  let c1_i32_45 : BitVec 32 := 1#32
  let v40 : BitVec 32 := Scalar.muli c0_i32_44 c1_i32_45
  let v41 : BitVec 32 := Scalar.addi c0_i32_46 v40
  v41.toNat
def k0_dev7 : Nat :=
  let c0_i32_64 : BitVec 32 := 0#32
  let c2_i32_62 : BitVec 32 := 2#32
  let c1_i32_63 : BitVec 32 := 1#32
  let v54 : BitVec 32 := Scalar.muli c2_i32_62 c1_i32_63
  let v55 : BitVec 32 := Scalar.addi c0_i32_64 v54
  v55.toNat
def k0_dev8 : Nat :=
  let c0_i32_94 : BitVec 32 := 0#32
  let c2_i32_92 : BitVec 32 := 2#32
  let c1_i32_93 : BitVec 32 := 1#32
  let v80 : BitVec 32 := Scalar.muli c2_i32_92 c1_i32_93
  let v81 : BitVec 32 := Scalar.addi c0_i32_94 v80
  v81.toNat
def k0_dev9 : Nat :=
  let c0_i32_126 : BitVec 32 := 0#32
  let c2_i32_124 : BitVec 32 := 2#32
  let c1_i32_125 : BitVec 32 := 1#32
  let v109 : BitVec 32 := Scalar.muli c2_i32_124 c1_i32_125
  let v110 : BitVec 32 := Scalar.addi c0_i32_126 v109
  v110.toNat
def k0_dev10 : Nat :=
  let c0_i32_155 : BitVec 32 := 0#32
  let c2_i32_153 : BitVec 32 := 2#32
  let c1_i32_154 : BitVec 32 := 1#32
  let v135 : BitVec 32 := Scalar.muli c2_i32_153 c1_i32_154
  let v136 : BitVec 32 := Scalar.addi c0_i32_155 v135
  v136.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_16 : BitVec 32 := 0#32
  let v15 : BitVec 1 := Scalar.cmpi .eq v2 c0_i32_16
  let v16 : BitVec 32 := Scalar.extui v15
  let c0_i32_17 : BitVec 32 := 0#32
  let v17 : BitVec 1 := Scalar.cmpi .ne v16 c0_i32_17
  v17

def k0_dev11 : Nat :=
  let c0_i32_121 : BitVec 32 := 0#32
  let c1_i32_119 : BitVec 32 := 1#32
  let c1_i32_120 : BitVec 32 := 1#32
  let v223 : BitVec 32 := Scalar.muli c1_i32_119 c1_i32_120
  let v224 : BitVec 32 := Scalar.addi c0_i32_121 v223
  v224.toNat
def k0_dev12 : Nat :=
  let c0_i32_132 : BitVec 32 := 0#32
  let c3_i32_130 : BitVec 32 := 3#32
  let c1_i32_131 : BitVec 32 := 1#32
  let v233 : BitVec 32 := Scalar.muli c3_i32_130 c1_i32_131
  let v234 : BitVec 32 := Scalar.addi c0_i32_132 v233
  v234.toNat
def k0_dev13 : Nat :=
  let c0_i32_228 : BitVec 32 := 0#32
  let c1_i32_226 : BitVec 32 := 1#32
  let c1_i32_227 : BitVec 32 := 1#32
  let v419 : BitVec 32 := Scalar.muli c1_i32_226 c1_i32_227
  let v420 : BitVec 32 := Scalar.addi c0_i32_228 v419
  v420.toNat
def k0_dev14 : Nat :=
  let c0_i32_239 : BitVec 32 := 0#32
  let c3_i32_237 : BitVec 32 := 3#32
  let c1_i32_238 : BitVec 32 := 1#32
  let v429 : BitVec 32 := Scalar.muli c3_i32_237 c1_i32_238
  let v430 : BitVec 32 := Scalar.addi c0_i32_239 v429
  v430.toNat
def k0_dev15 : Nat :=
  let c0_i32_336 : BitVec 32 := 0#32
  let c1_i32_334 : BitVec 32 := 1#32
  let c1_i32_335 : BitVec 32 := 1#32
  let v618 : BitVec 32 := Scalar.muli c1_i32_334 c1_i32_335
  let v619 : BitVec 32 := Scalar.addi c0_i32_336 v618
  v619.toNat
def k0_dev16 : Nat :=
  let c0_i32_346 : BitVec 32 := 0#32
  let c3_i32_344 : BitVec 32 := 3#32
  let c1_i32_345 : BitVec 32 := 1#32
  let v628 : BitVec 32 := Scalar.muli c3_i32_344 c1_i32_345
  let v629 : BitVec 32 := Scalar.addi c0_i32_346 v628
  v629.toNat
def k0_dev17 : Nat :=
  let c0_i32_440 : BitVec 32 := 0#32
  let c1_i32_438 : BitVec 32 := 1#32
  let c1_i32_439 : BitVec 32 := 1#32
  let v814 : BitVec 32 := Scalar.muli c1_i32_438 c1_i32_439
  let v815 : BitVec 32 := Scalar.addi c0_i32_440 v814
  v815.toNat
def k0_dev18 : Nat :=
  let c0_i32_450 : BitVec 32 := 0#32
  let c3_i32_448 : BitVec 32 := 3#32
  let c1_i32_449 : BitVec 32 := 1#32
  let v824 : BitVec 32 := Scalar.muli c3_i32_448 c1_i32_449
  let v825 : BitVec 32 := Scalar.addi c0_i32_450 v824
  v825.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x512 : Shape := ⟨2, ![768, 512]⟩
abbrev S2x2048x8x64 : Shape := ⟨4, ![2, 2048, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S_ : Shape := ⟨0, ![]⟩
abbrev S2x8x512x2048 : Shape := ⟨4, ![2, 8, 512, 2048]⟩
abbrev S1x1x512x2048 : Shape := ⟨4, ![1, 1, 512, 2048]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 57
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x2048x8x64, .f32⟩
  | .hbm, ⟨3, _⟩ => ⟨S2x2048x8x64, .f32⟩
  | .hbm, ⟨4, _⟩ => ⟨S512x768, .f32⟩
  | .hbm, ⟨5, _⟩ => ⟨S2x512x512, .f32⟩
  | .hbm, ⟨6, _⟩ => ⟨S2x512x8x64, .f32⟩
  | .hbm, ⟨7, _⟩ => ⟨S512, .i32⟩
  | .hbm, ⟨8, _⟩ => ⟨S512x1, .i32⟩
  | .hbm, ⟨9, _⟩ => ⟨S2048, .i32⟩
  | .hbm, ⟨10, _⟩ => ⟨S1x2048, .i32⟩
  | .hbm, ⟨11, _⟩ => ⟨S512x2048, .i32⟩
  | .hbm, ⟨12, _⟩ => ⟨S512x2048, .i32⟩
  | .hbm, ⟨13, _⟩ => ⟨S512x2048, .i32⟩
  | .hbm, ⟨14, _⟩ => ⟨S512x2048, .i32⟩
  | .hbm, ⟨15, _⟩ => ⟨S_, .i32⟩
  | .hbm, ⟨16, _⟩ => ⟨S512x2048, .i32⟩
  | .hbm, ⟨17, _⟩ => ⟨S512x2048, .i1⟩
  | .hbm, ⟨18, _⟩ => ⟨S2x8x512x2048, .f32⟩
  | .hbm, ⟨19, _⟩ => ⟨S_, .f32⟩
  | .hbm, ⟨20, _⟩ => ⟨S2x8x512x2048, .f32⟩
  | .hbm, ⟨21, _⟩ => ⟨S2x8x512x2048, .f32⟩
  | .hbm, ⟨22, _⟩ => ⟨S1x1x512x2048, .i1⟩
  | .hbm, ⟨23, _⟩ => ⟨S_, .f32⟩
  | .hbm, ⟨24, _⟩ => ⟨S_, .f32⟩
  | .hbm, ⟨25, _⟩ => ⟨S2x8x512x2048, .i1⟩
  | .hbm, ⟨26, _⟩ => ⟨S2x8x512x2048, .f32⟩
  | .hbm, ⟨27, _⟩ => ⟨S2x8x512x2048, .f32⟩
  | .hbm, ⟨28, _⟩ => ⟨S_, .f32⟩
  | .hbm, ⟨29, _⟩ => ⟨S2x8x512, .f32⟩
  | .hbm, ⟨30, _⟩ => ⟨S2x8x512x1, .f32⟩
  | .hbm, ⟨31, _⟩ => ⟨S2x8x512x2048, .f32⟩
  | .hbm, ⟨32, _⟩ => ⟨S2x8x512x2048, .f32⟩
  | .hbm, ⟨33, _⟩ => ⟨S2x8x512x2048, .f32⟩
  | .hbm, ⟨34, _⟩ => ⟨S_, .i1⟩
  | .hbm, ⟨35, _⟩ => ⟨S512, .i1⟩
  | .hbm, ⟨36, _⟩ => ⟨S1x1x512x1, .i1⟩
  | .hbm, ⟨37, _⟩ => ⟨S_, .f32⟩
  | .hbm, ⟨38, _⟩ => ⟨S2x8x512, .f32⟩
  | .hbm, ⟨39, _⟩ => ⟨S2x8x512x1, .f32⟩
  | .hbm, ⟨40, _⟩ => ⟨S_, .f32⟩
  | .hbm, ⟨41, _⟩ => ⟨S_, .f32⟩
  | .hbm, ⟨42, _⟩ => ⟨S2x8x512x1, .i1⟩
  | .hbm, ⟨43, _⟩ => ⟨S2x8x512x1, .f32⟩
  | .hbm, ⟨44, _⟩ => ⟨S2x8x512x1, .f32⟩
  | .hbm, ⟨45, _⟩ => ⟨S2x8x512x2048, .f32⟩
  | .hbm, ⟨46, _⟩ => ⟨S2x8x512x2048, .f32⟩
  | .hbm, ⟨47, _⟩ => ⟨S1x1x512x1, .i1⟩
  | .hbm, ⟨48, _⟩ => ⟨S_, .f32⟩
  | .hbm, ⟨49, _⟩ => ⟨S_, .f32⟩
  | .hbm, ⟨50, _⟩ => ⟨S2x8x512x2048, .i1⟩
  | .hbm, ⟨51, _⟩ => ⟨S2x8x512x2048, .f32⟩
  | .hbm, ⟨52, _⟩ => ⟨S2x8x512x2048, .f32⟩
  | .hbm, ⟨53, _⟩ => ⟨S2x8x64x512, .f32⟩
  | .hbm, ⟨54, _⟩ => ⟨S2x512x8x64, .f32⟩
  | .hbm, ⟨55, _⟩ => ⟨S2x512x512, .f32⟩
  | .hbm, ⟨56, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KernelIdeal.Contents.lean ====
/-
# What the four devices hold: the staged operands, the exchanged keys and values, the attention chunks, the results

Device 0 owns the first 512 keys and values, device 1 sends it the first 128 of its own. With them device 0 computes all
512 query rows' attention, chunk by chunk (a chunk: four heads of one batch entry), and every device multiplies each
chunk by its own slice of the output weights.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Tactic

@[expose] public section

noncomputable section

namespace Cert.KernelIdeal.Run

open Cert.KernelIdeal Cert.KernelIdeal.Gen
open Idealize.ShloMosaic
open Idealize.ShloMosaic.TcCoe

variable {F : FTy → Type} [FloatOps F] [Named F]

/-! ## The memrefs -/

abbrev xM : Memref sig .tc .vmem S2x512x768 .f32 := Memref.whole cc0_stg0_0
abbrev wqM : Memref sig .tc .vmem S768x512 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S512x768 .f32 := Memref.whole cc0_stg4_0
abbrev oM : Memref sig .tc .vmem S2x512x768 .f32 := Memref.whole cc0_stg5_0
abbrev ctxM : Memref sig .tc .vmem S4x512x256 .f32 := Memref.whole cc0_scratch0
abbrev k1M : Memref sig .tc .vmem S2x128x8x64 .f32 := Memref.whole cc0_scratch1
abbrev v1M : Memref sig .tc .vmem S2x128x8x64 .f32 := Memref.whole cc0_scratch2

/-- The four chunks of the attention buffer, as the copies name them. -/
abbrev cM0 : Memref sig .tc .vmem S512x256 .f32 :=
  (ctxM.slice (Rect.unit (s := S4x512x256) ![0, 0, 0] S1x512x256.size inb_S4x512x256_S1x512x256_0_0_0) (fun _ => rfl)).squeeze S512x256 squeezes_S1x512x256_S512x256
abbrev cM1 : Memref sig .tc .vmem S512x256 .f32 :=
  (ctxM.slice (Rect.unit (s := S4x512x256) ![1, 0, 0] S1x512x256.size inb_S4x512x256_S1x512x256_1_0_0) (fun _ => rfl)).squeeze S512x256 squeezes_S1x512x256_S512x256
abbrev cM2 : Memref sig .tc .vmem S512x256 .f32 :=
  (ctxM.slice (Rect.unit (s := S4x512x256) ![2, 0, 0] S1x512x256.size inb_S4x512x256_S1x512x256_2_0_0) (fun _ => rfl)).squeeze S512x256 squeezes_S1x512x256_S512x256
abbrev cM3 : Memref sig .tc .vmem S512x256 .f32 :=
  (ctxM.slice (Rect.unit (s := S4x512x256) ![3, 0, 0] S1x512x256.size inb_S4x512x256_S1x512x256_3_0_0) (fun _ => rfl)).squeeze S512x256 squeezes_S1x512x256_S512x256

/-! ## The staged operands -/

variable (m : (ℓ : Loc nD τ sig) → Buf (Elt F) ℓ)

def xS (c : Dev nD) : (cc0_stg0_0 : Ref sig .tc).ty.Contents (Elt F) := (win0_0.blk (0 : Fin 1)).view.read (Elt F) (m ((c : Thread nD τ).loc main_arg0))
def wqS (c : Dev nD) : (cc0_stg1_0 : Ref sig .tc).ty.Contents (Elt F) := (win0_1.blk (0 : Fin 1)).view.read (Elt F) (m ((c : Thread nD τ).loc main_arg1))
def kS (c : Dev nD) : (cc0_stg2_0 : Ref sig .tc).ty.Contents (Elt F) := (win0_2.blk (0 : Fin 1)).view.read (Elt F) (m ((c : Thread nD τ).loc main_arg2))
def vS (c : Dev nD) : (cc0_stg3_0 : Ref sig .tc).ty.Contents (Elt F) := (win0_3.blk (0 : Fin 1)).view.read (Elt F) (m ((c : Thread nD τ).loc main_arg3))
def woS (c : Dev nD) : (cc0_stg4_0 : Ref sig .tc).ty.Contents (Elt F) := (win0_4.blk (0 : Fin 1)).view.read (Elt F) (m ((c : Thread nD τ).loc main_arg4))

/-! ## What device 1 sends device 0 -/

/-- The first 128 of device 1's keys, -/
def k1V : (cc0_scratch1 : Ref sig .tc).ty.Contents (Elt F) :=
  k0_pay2 (kM.view.readAt (Elt F) (Rect.unit (s := S2x512x8x64) ![0, 0, 0, 0] S2x128x8x64.size inb_S2x512x8x64_S2x128x8x64_0_0_0_0).toLoadRect (kS m 1))
/-- and of its values. -/
def v1V : (cc0_scratch2 : Ref sig .tc).ty.Contents (Elt F) :=
  k0_pay3 (vM.view.readAt (Elt F) (Rect.unit (s := S2x512x8x64) ![0, 0, 0, 0] S2x128x8x64.size inb_S2x512x8x64_S2x128x8x64_0_0_0_0).toLoadRect (vS m 1))

/-! ## One head -/

/-- The scores of 512 query rows against 512 keys of one head, scaled, the named constant where the keys are too far. -/
def score0 (q k : FVec F S512x64 .f32) : FVec F S512x512 .f32 :=
  select (k0_pay11 : IVec S512x512 1)
    (mulf (matmul dot_S512x64_S512x64_S512x512_1_1_0_0_n_n none q k (constant S512x512 .f32 0x00000000#32)) (broadcast S512x512 (Scalar.ofBits .f32 0x3E000000#32)))
    (broadcast S512x512 (Named.named κ "mask" 0xCE6E6B28#32 : F .f32))
/-- The same against device 1's 128 keys. -/
def score1 (q : FVec F S512x64 .f32) (k : FVec F S128x64 .f32) : FVec F S512x128 .f32 :=
  select (k0_pay12 : IVec S512x128 1)
    (mulf (matmul dot_S512x64_S128x64_S512x128_1_1_0_0_n_n none q k (constant S512x128 .f32 0x00000000#32)) (broadcast S512x128 (Scalar.ofBits .f32 0x3E000000#32)))
    (broadcast S512x128 (Named.named κ "mask" 0xCE6E6B28#32 : F .f32))
/-- Each row's greatest score. -/
def rowMax (s0 : FVec F S512x512 .f32) (s1 : FVec F S512x128 .f32) : FVec F S512x1 .f32 :=
  maximumf (shapeCast S512x1 (multiReduction .maximumf [1] S512 s0 0xFF800000#32 reduces_S512x512_S512 (.inl rfl) rfl) shapeCasts_S512_S512x1)
    (shapeCast S512x1 (multiReduction .maximumf [1] S512 s1 0xFF800000#32 reduces_S512x128_S512 (.inl rfl) rfl) shapeCasts_S512_S512x1)
/-- The weights before normalisation: exp of the score less the row's greatest. -/
def wt0 (s0 : FVec F S512x512 .f32) (mx : FVec F S512x1 .f32) : FVec F S512x512 .f32 := exp (subf s0 (broadcastTo S512x512 mx broadcasts_S512x1_S512x512))
def wt1 (s1 : FVec F S512x128 .f32) (mx : FVec F S512x1 .f32) : FVec F S512x128 .f32 := exp (subf s1 (broadcastTo S512x128 mx broadcasts_S512x1_S512x128))
/-- Their sum over all 640 keys. -/
def rowSum (w0 : FVec F S512x512 .f32) (w1 : FVec F S512x128 .f32) : FVec F S512x1 .f32 :=
  addf (shapeCast S512x1 (multiReduction .add [1] S512 w0 0x00000000#32 reduces_S512x512_S512 (.inl rfl) rfl) shapeCasts_S512_S512x1)
    (shapeCast S512x1 (multiReduction .add [1] S512 w1 0x00000000#32 reduces_S512x128_S512 (.inl rfl) rfl) shapeCasts_S512_S512x1)
/-- The weighted values over the sum. -/
def mix (w0 : FVec F S512x512 .f32) (w1 : FVec F S512x128 .f32) (v : FVec F S512x64 .f32) (v1 : FVec F S128x64 .f32) : FVec F S512x64 .f32 :=
  divf (addf (matmul dot_S512x512_S512x64_S512x64_1_0_0_1_n_n none w0 v (constant S512x64 .f32 0x00000000#32))
      (matmul dot_S512x128_S128x64_S512x64_1_0_0_1_n_n none w1 v1 (constant S512x64 .f32 0x00000000#32)))
    (broadcastTo S512x64 (rowSum w0 w1) broadcasts_S512x1_S512x64)

/-- One head's attention, from its 64 columns of queries, keys and values. -/
def attend (q k v : FVec F S512x64 .f32) (k1 v1 : FVec F S128x64 .f32) : FVec F S512x64 .f32 :=
  mix (wt0 (score0 q k) (rowMax (score0 q k) (score1 q k1))) (wt1 (score1 q k1) (rowMax (score0 q k) (score1 q k1))) v v1

/-- The head whose columns begin at `o`, from all heads' queries, keys and values of one batch entry. -/
def headAt (o : Fin 2 → ℕ) (h : S512x512.Slices o S512x64) (h1 : S128x512.Slices o S128x64) (q k v : FVec F S512x512 .f32) (k1 v1 : FVec F S128x512 .f32) :
    FVec F S512x64 .f32 :=
  attend (extractStridedSlice S512x64 o q h) (extractStridedSlice S512x64 o k h) (extractStridedSlice S512x64 o v h)
    (extractStridedSlice S128x64 o k1 h1) (extractStridedSlice S128x64 o v1 h1)

/-! ## Device 0's operands of batch entry `b` -/

/-- The queries of batch entry `b`: its rows of the input by the query weights. -/
def qB (b : Fin 2) : FVec F S512x512 .f32 := match b with
  | 0 => k0_pay9 (xM.view.readAt (Elt F) (Rect.unit (s := S2x512x768) ![0, 0, 0] S1x512x768.size inb_S2x512x768_S1x512x768_0_0_0).toLoadRect (xS m 0))
      (wqM.view.readAt (Elt F) (Rect.unit (s := S768x512) ![0, 0] S768x512.size inb_S768x512_S768x512_0_0).toLoadRect (wqS m 0))
  | 1 => k0_pay9 (xM.view.readAt (Elt F) (Rect.unit (s := S2x512x768) ![1, 0, 0] S1x512x768.size inb_S2x512x768_S1x512x768_1_0_0).toLoadRect (xS m 0))
      (wqM.view.readAt (Elt F) (Rect.unit (s := S768x512) ![0, 0] S768x512.size inb_S768x512_S768x512_0_0).toLoadRect (wqS m 0))
/-- Device 0's keys of batch entry `b`, the heads side by side; -/
def kB (b : Fin 2) : FVec F S512x512 .f32 := match b with
  | 0 => k0_pay13 (kM.view.readAt (Elt F) (Rect.unit (s := S2x512x8x64) ![0, 0, 0, 0] S1x512x8x64.size inb_S2x512x8x64_S1x512x8x64_0_0_0_0).toLoadRect (kS m 0))
  | 1 => k0_pay13 (kM.view.readAt (Elt F) (Rect.unit (s := S2x512x8x64) ![1, 0, 0, 0] S1x512x8x64.size inb_S2x512x8x64_S1x512x8x64_1_0_0_0).toLoadRect (kS m 0))
/-- its values; -/
def vB (b : Fin 2) : FVec F S512x512 .f32 := match b with
  | 0 => k0_pay14 (vM.view.readAt (Elt F) (Rect.unit (s := S2x512x8x64) ![0, 0, 0, 0] S1x512x8x64.size inb_S2x512x8x64_S1x512x8x64_0_0_0_0).toLoadRect (vS m 0))
  | 1 => k0_pay14 (vM.view.readAt (Elt F) (Rect.unit (s := S2x512x8x64) ![1, 0, 0, 0] S1x512x8x64.size inb_S2x512x8x64_S1x512x8x64_1_0_0_0).toLoadRect (vS m 0))
/-- device 1's 128 keys; -/
def k1B (b : Fin 2) : FVec F S128x512 .f32 := match b with
  | 0 => k0_pay15 (k1M.view.readAt (Elt F) (Rect.unit (s := S2x128x8x64) ![0, 0, 0, 0] S1x128x8x64.size inb_S2x128x8x64_S1x128x8x64_0_0_0_0).toLoadRect (k1V m))
  | 1 => k0_pay15 (k1M.view.readAt (Elt F) (Rect.unit (s := S2x128x8x64) ![1, 0, 0, 0] S1x128x8x64.size inb_S2x128x8x64_S1x128x8x64_1_0_0_0).toLoadRect (k1V m))
/-- its 128 values. -/
def v1B (b : Fin 2) : FVec F S128x512 .f32 := match b with
  | 0 => k0_pay16 (v1M.view.readAt (Elt F) (Rect.unit (s := S2x128x8x64) ![0, 0, 0, 0] S1x128x8x64.size inb_S2x128x8x64_S1x128x8x64_0_0_0_0).toLoadRect (v1V m))
  | 1 => k0_pay16 (v1M.view.readAt (Elt F) (Rect.unit (s := S2x128x8x64) ![1, 0, 0, 0] S1x128x8x64.size inb_S2x128x8x64_S1x128x8x64_1_0_0_0).toLoadRect (v1V m))

/-- Where head `h`'s columns begin. -/
abbrev hOff (h : Fin 8) : Fin 2 → ℕ := ![0, 64 * h.val]
theorem hOff_slices (h : Fin 8) : S512x512.Slices (hOff h) S512x64 := by revert h; decide
theorem hOff_slices1 (h : Fin 8) : S128x512.Slices (hOff h) S128x64 := by revert h; decide

/-- Head `h` of batch entry `b`. -/
def headV (b : Fin 2) (h : Fin 8) : FVec F S512x64 .f32 := headAt (hOff h) (hOff_slices h) (hOff_slices1 h) (qB m b) (kB m b) (vB m b) (k1B m b) (v1B m b)

set_option backward.proofsInPublic true in
/-- The attention buffer: chunk `2 b + g` holds heads `4 g … 4 g + 3` of batch entry `b` side by side. -/
def ctxV : (cc0_scratch0 : Ref sig .tc).ty.Contents (Elt F) := fun i : S4x512x256.Idx =>
  headV m ⟨(i 0).val / 2, by have := (i 0).isLt; change _ < 4 at this; omega⟩
    ⟨4 * ((i 0).val % 2) + (i 2).val / 64, by have := (i 2).isLt; change _ < 256 at this; omega⟩
    (fun a => match a with | ⟨0, _⟩ => (⟨(i 1).val, (i 1).isLt⟩ : Fin 512) | ⟨1, _⟩ => (⟨(i 2).val % 64, Nat.mod_lt _ (by decide)⟩ : Fin 64))

/-! ## The results -/

abbrev ctxRect0 : Rect S4x512x256 := Rect.unit (s := S4x512x256) ![0, 0, 0] S1x512x256.size inb_S4x512x256_S1x512x256_0_0_0
abbrev ctxRect1 : Rect S4x512x256 := Rect.unit (s := S4x512x256) ![1, 0, 0] S1x512x256.size inb_S4x512x256_S1x512x256_1_0_0
abbrev ctxRect2 : Rect S4x512x256 := Rect.unit (s := S4x512x256) ![2, 0, 0] S1x512x256.size inb_S4x512x256_S1x512x256_2_0_0
abbrev ctxRect3 : Rect S4x512x256 := Rect.unit (s := S4x512x256) ![3, 0, 0] S1x512x256.size inb_S4x512x256_S1x512x256_3_0_0
abbrev oRect0 : Rect S2x512x768 := Rect.unit (s := S2x512x768) ![0, 0, 0] S1x512x768.size inb_S2x512x768_S1x512x768_0_0_0
abbrev oRect1 : Rect S2x512x768 := Rect.unit (s := S2x512x768) ![1, 0, 0] S1x512x768.size inb_S2x512x768_S1x512x768_1_0_0

/-- Device `c`'s output weights of the first four heads, -/
def woTop (c : Dev nD) : Vec F S256x768 .f32 := woM.view.readAt (Elt F) (Rect.unit (s := S512x768) ![0, 0] S256x768.size inb_S512x768_S256x768_0_0).toLoadRect (woS m c)
/-- and of the last four. -/
def woBot (c : Dev nD) : Vec F S256x768 .f32 := woM.view.readAt (Elt F) (Rect.unit (s := S512x768) ![256, 0] S256x768.size inb_S512x768_S256x768_256_0).toLoadRect (woS m c)

/-- Batch entry 0 of device `c`'s result: its two chunks by the output weights, summed. -/
def out0 (c : Dev nD) : FVec F S1x512x768 .f32 :=
  k0_pay5 (ctxM.view.readAt (Elt F) ctxRect1.toLoadRect (ctxV m)) (woBot m c) (k0_pay4 (ctxM.view.readAt (Elt F) ctxRect0.toLoadRect (ctxV m)) (woTop m c))
/-- Batch entry 1. -/
def out1 (c : Dev nD) : FVec F S1x512x768 .f32 :=
  k0_pay5 (ctxM.view.readAt (Elt F) ctxRect3.toLoadRect (ctxV m)) (woBot m c) (k0_pay4 (ctxM.view.readAt (Elt F) ctxRect2.toLoadRect (ctxV m)) (woTop m c))

/-- An index of the result within its batch entry. -/
def inEntry (i : S2x512x768.Idx) : S1x512x768.Idx := fun a => match a with
  | ⟨0, _⟩ => (0 : Fin 1) | ⟨1, _⟩ => (⟨(i 1).val, (i 1).isLt⟩ : Fin 512) | ⟨2, _⟩ => (⟨(i 2).val, (i 2).isLt⟩ : Fin 768)

/-- Device `c`'s result. -/
def outV (c : Dev nD) : (cc0_stg5_0 : Ref sig .tc).ty.Contents (Elt F) := fun i : S2x512x768.Idx =>
  (if (i 0).val = 0 then out0 m c else out1 m c) (inEntry i)

end Cert.KernelIdeal.Run

end

end
-- ==== Proof.KernelIdeal.Protocol.lean ====
/-
# The protocol: who hands what to whom, on which semaphore

Each device signals all four barrier cells once and waits for four units on its own, so no copy starts before its target
has entered the kernel; with its signal a device hands over the buffers the receiver will write into. Afterwards every
other semaphore carries one transfer: a cell's one duty is paid by the copy that completes on it, and hands over the
buffer that copy read (a departure) or wrote (an arrival), with its contents.
-/
module

public import proofs.«01_k».proof.Proof.KernelIdeal.Contents

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Pipeline (Dat Cfg Window BodyObligation cellOf)

variable {F : FTy → Type} [FloatOps F] [Named F]

/-! ## The resource algebra: the pipeline's copy and the protocol's, whose duties are named by devices -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barS : Sem sig := (SemArray.scalar (sig.barrier 0 rfl) : Sems sig S_).sem

/-- Device `c`'s barrier cell, -/
abbrev bar (c : Dev nD) : GSem nD τ sig := ((c : Thread nD τ), .reg barS)
/-- and its DMA semaphore number `n`. -/
abbrev dc (c : Dev nD) (n : DmaSem sig) : GSem nD τ sig := ((c : Thread nD τ), .dma n)

/-- The credit of a copy of the exchanged keys (or values), -/
abbrev NK : ℕ := (k1M : Memref sig .tc .vmem S2x128x8x64 .f32).view.dmaCredit
/-- and of a chunk. -/
abbrev NC : ℕ := (cM0 : Memref sig .tc .vmem S512x256 .f32).view.dmaCredit
theorem NK_pos : 0 < NK := View.dmaCredit_pos _ (by decide)
theorem NC_pos : 0 < NC := View.dmaCredit_pos _ (by decide)

/-- Which of device `c`'s DMA semaphores carry a transfer. -/
def live (c : Dev nD) (n : DmaSem sig) : Bool := match c with
  | 0 => decide (8 ≤ n.val ∧ n.val < 18)
  | 1 => decide (6 ≤ n.val ∧ n.val < 8 ∨ 18 ≤ n.val)
  | _ => decide (22 ≤ n.val)

/-! ## What a cell's payer hands over -/

/-- A whole scratch buffer of device `c`, or one chunk, at contents `f` and share `q`. -/
abbrev k1At (c : Dev nD) (q : PosShare TreeShare) (f : Buf (Elt F) ((k1M : Memref sig .tc .vmem S2x128x8x64 .f32).view.loc (c : Thread nD τ))) : sProp 𝕄 :=
  k1M.view.loc (c : Thread nD τ) ↦[k1M.view.set]{q} f
abbrev v1At (c : Dev nD) (q : PosShare TreeShare) (f : Buf (Elt F) ((v1M : Memref sig .tc .vmem S2x128x8x64 .f32).view.loc (c : Thread nD τ))) : sProp 𝕄 :=
  v1M.view.loc (c : Thread nD τ) ↦[v1M.view.set]{q} f
abbrev c0At (c : Dev nD) (q : PosShare TreeShare) (f : Buf (Elt F) ((cM0 : Memref sig .tc .vmem S512x256 .f32).view.loc (c : Thread nD τ))) : sProp 𝕄 :=
  cM0.view.loc (c : Thread nD τ) ↦[cM0.view.set]{q} f
abbrev c1At (c : Dev nD) (q : PosShare TreeShare) (f : Buf (Elt F) ((cM1 : Memref sig .tc .vmem S512x256 .f32).view.loc (c : Thread nD τ))) : sProp 𝕄 :=
  cM1.view.loc (c : Thread nD τ) ↦[cM1.view.set]{q} f
abbrev c2At (c : Dev nD) (q : PosShare TreeShare) (f : Buf (Elt F) ((cM2 : Memref sig .tc .vmem S512x256 .f32).view.loc (c : Thread nD τ))) : sProp 𝕄 :=
  cM2.view.loc (c : Thread nD τ) ↦[cM2.view.set]{q} f
abbrev c3At (c : Dev nD) (q : PosShare TreeShare) (f : Buf (Elt F) ((cM3 : Memref sig .tc .vmem S512x256 .f32).view.loc (c : Thread nD τ))) : sProp 𝕄 :=
  cM3.view.loc (c : Thread nD τ) ↦[cM3.view.set]{q} f

/-- Elements of a buffer at any contents. -/
def anyAt (ℓ : Loc nD τ sig) (I : Finset (Idx ℓ)) : sProp 𝕄 := iprop(∃ f : Buf (Elt F) ℓ, ℓ ↦[I]{fullShare} f)

instance anyAt_storable (ℓ : Loc nD τ sig) (I : Finset (Idx ℓ)) : BI.Storable (upEmb : UEmb _ 𝕄) (anyAt (F := F) ℓ I) := by
  unfold anyAt; infer_instance

/-- A device's four chunks, at any contents. -/
def chunksAny (c : Dev nD) : sProp 𝕄 :=
  iprop(anyAt (cM0.view.loc (c : Thread nD τ)) cM0.view.set ∗ anyAt (cM1.view.loc (c : Thread nD τ)) cM1.view.set
    ∗ anyAt (cM2.view.loc (c : Thread nD τ)) cM2.view.set ∗ anyAt (cM3.view.loc (c : Thread nD τ)) cM3.view.set)
/-- A device's two buffers for keys and values, at any contents. -/
def kvAny (c : Dev nD) : sProp 𝕄 :=
  iprop(anyAt (k1M.view.loc (c : Thread nD τ)) k1M.view.set ∗ anyAt (v1M.view.loc (c : Thread nD τ)) v1M.view.set)

instance chunksAny_storable (c : Dev nD) : BI.Storable (upEmb : UEmb _ 𝕄) (chunksAny (F := F) c) := by unfold chunksAny; infer_instance
instance kvAny_storable (c : Dev nD) : BI.Storable (upEmb : UEmb _ 𝕄) (kvAny (F := F) c) := by unfold kvAny; infer_instance

/-- What device `d`'s signal hands device `c`: to device 1, device 0 its two buffers for keys and values and device 2 its
    chunks; to device 0, devices 1 and 3 their chunks; nothing else. -/
def barPay (c d : Dev nD) : sProp 𝕄 := match c, d with
  | 0, 1 => chunksAny 1
  | 0, 3 => chunksAny 3
  | 1, 0 => kvAny 0
  | 1, 2 => chunksAny 2
  | _, _ => iprop(emp)

/-- The shares device 0 lends a chunk at: for the copy to device 1, the copy to device 3, and what it keeps to read. -/
abbrev qa : PosShare TreeShare := fullShare.left
abbrev qb : PosShare TreeShare := fullShare.right.left
abbrev qc : PosShare TreeShare := fullShare.right.right

/-- What the copy completing on device `c`'s semaphore `n` hands `c`. -/
def dmaPay (c : Dev nD) (n : ℕ) : sProp 𝕄 := match n with
  | 6 => k1At c fullShare (k1V m)
  | 7 => v1At c fullShare (v1V m)
  | 8 => k1At c fullShare (k1V m)
  | 9 => v1At c fullShare (v1V m)
  | 10 => c0At c qa (ctxV m)
  | 11 => c0At c qb (ctxV m)
  | 12 => c1At c qa (ctxV m)
  | 13 => c1At c qb (ctxV m)
  | 14 => c2At c qa (ctxV m)
  | 15 => c2At c qb (ctxV m)
  | 16 => c3At c qa (ctxV m)
  | 17 => c3At c qb (ctxV m)
  | 18 => c0At c fullShare.left (ctxV m)
  | 19 => c1At c fullShare.left (ctxV m)
  | 20 => c2At c fullShare.left (ctxV m)
  | 21 => c3At c fullShare.left (ctxV m)
  | 22 => c0At c fullShare (ctxV m)
  | 23 => c1At c fullShare (ctxV m)
  | 24 => c2At c fullShare (ctxV m)
  | 25 => c3At c fullShare (ctxV m)
  | _ => iprop(emp)

/-- The schedule: one round; on a barrier cell a duty of one unit for every device, on a live DMA cell one duty (named 0)
    of the copy's credit. -/
def Rd : Rounds.Schedule (GSem nD τ sig) (Dev nD) 𝕄 where
  duties g r := if r = 0 ∧ g.1.2 = .tc then (match g.2 with | .reg _ => Finset.univ | .dma n => if live g.1.1 n then {0} else ∅) else ∅
  unitless _ := False
  amount g _ _ := match g.2 with | .reg _ => 1 | .dma n => if n.val < 10 then NK else NC
  payload g _ d := match g.2 with | .reg _ => barPay g.1.1 d | .dma n => dmaPay m g.1.1 n.val
  amount_pos g _ _ _ := by
    rcases g with ⟨t, s | n⟩
    · exact Nat.one_pos
    · show 0 < if n.val < 10 then NK else NC
      split
      · exact NK_pos
      · exact NC_pos

instance barPay_storable (c d : Dev nD) : BI.Storable (upEmb : UEmb _ 𝕄) (barPay (F := F) c d) := by
  unfold barPay; split <;> infer_instance
instance dmaPay_storable (c : Dev nD) (n : ℕ) : BI.Storable (upEmb : UEmb _ 𝕄) (dmaPay m c n) := by
  unfold dmaPay; split <;> infer_instance
instance Rd_payload_storable (g : GSem nD τ sig) (r : ℕ) (d : Dev nD) : BI.Storable (upEmb : UEmb _ 𝕄) ((Rd m).payload g r d) := by
  rcases g with ⟨t, s | n⟩
  · exact barPay_storable _ _
  · exact dmaPay_storable _ _ _

/-! ## The schedule's tables -/

theorem duties_bar (c : Dev nD) : (Rd m).duties (bar c) 0 = Finset.univ := rfl
theorem duties_dma (c : Dev nD) (n : DmaSem sig) (h : live c n = true) : (Rd m).duties (dc c n) 0 = {0} := by
  dsimp only [Rd]; rw [if_pos ⟨rfl, rfl⟩]; exact if_pos h
theorem mem_bar (c d : Dev nD) : d ∈ (Rd m).duties (bar c) 0 := by rw [duties_bar]; exact Finset.mem_univ _
theorem mem_dma (c : Dev nD) (n : DmaSem sig) (h : live c n = true) : (0 : Dev nD) ∈ (Rd m).duties (dc c n) 0 := by
  rw [duties_dma m c n h]; exact Finset.mem_singleton_self _
theorem duties_later (g : GSem nD τ sig) : ∀ r, 1 ≤ r → (Rd m).duties g r = ∅ :=
  fun r hr => by dsimp only [Rd]; rw [if_neg fun h => by omega]
theorem duties_dead (c : Dev nD) (n : DmaSem sig) (h : live c n = false) (r : ℕ) : (Rd m).duties (dc c n) r = ∅ := by
  dsimp only [Rd]; rw [h]; split <;> rfl

theorem amount_bar (c d : Dev nD) : (Rd m).amount (bar c) 0 d = 1 := rfl
theorem amount_kv (c : Dev nD) (n : DmaSem sig) (d : Dev nD) (h : n.val < 10) : (Rd m).amount (dc c n) 0 d = NK := if_pos h
theorem amount_ctx (c : Dev nD) (n : DmaSem sig) (d : Dev nD) (h : ¬ n.val < 10) : (Rd m).amount (dc c n) 0 d = NC := if_neg h

theorem expect_bar (c : Dev nD) : (Rd m).expect (bar c) 0 = 4 := by
  unfold Schedule.expect Schedule.amountOf
  rw [duties_bar, Finset.sum_congr rfl fun d _ => amount_bar m c d, Finset.sum_const, Finset.card_univ, Fintype.card_fin]; rfl
theorem expect_kv (c : Dev nD) (n : DmaSem sig) (hl : live c n = true) (h : n.val < 10) : (Rd m).expect (dc c n) 0 = NK := by
  unfold Schedule.expect Schedule.amountOf; rw [duties_dma m c n hl, Finset.sum_singleton, amount_kv m c n 0 h]
theorem expect_ctx (c : Dev nD) (n : DmaSem sig) (hl : live c n = true) (h : ¬ n.val < 10) : (Rd m).expect (dc c n) 0 = NC := by
  unfold Schedule.expect Schedule.amountOf; rw [duties_dma m c n hl, Finset.sum_singleton, amount_ctx m c n 0 h]

theorem payload_bar (c d : Dev nD) : (Rd m).payload (bar c) 0 d = barPay c d := rfl
theorem payload_dma (c : Dev nD) (n : DmaSem sig) (d : Dev nD) : (Rd m).payload (dc c n) 0 d = dmaPay m c n.val := rfl
theorem payload_n6 (c d : Dev nD) : (Rd m).payload (dc c 6) 0 d = k1At c fullShare (k1V m) := rfl
theorem payload_n7 (c d : Dev nD) : (Rd m).payload (dc c 7) 0 d = v1At c fullShare (v1V m) := rfl
theorem payload_n8 (c d : Dev nD) : (Rd m).payload (dc c 8) 0 d = k1At c fullShare (k1V m) := rfl
theorem payload_n9 (c d : Dev nD) : (Rd m).payload (dc c 9) 0 d = v1At c fullShare (v1V m) := rfl
theorem payload_n10 (c d : Dev nD) : (Rd m).payload (dc c 10) 0 d = c0At c qa (ctxV m) := rfl
theorem payload_n11 (c d : Dev nD) : (Rd m).payload (dc c 11) 0 d = c0At c qb (ctxV m) := rfl
theorem payload_n12 (c d : Dev nD) : (Rd m).payload (dc c 12) 0 d = c1At c qa (ctxV m) := rfl
theorem payload_n13 (c d : Dev nD) : (Rd m).payload (dc c 13) 0 d = c1At c qb (ctxV m) := rfl
theorem payload_n14 (c d : Dev nD) : (Rd m).payload (dc c 14) 0 d = c2At c qa (ctxV m) := rfl
theorem payload_n15 (c d : Dev nD) : (Rd m).payload (dc c 15) 0 d = c2At c qb (ctxV m) := rfl
theorem payload_n16 (c d : Dev nD) : (Rd m).payload (dc c 16) 0 d = c3At c qa (ctxV m) := rfl
theorem payload_n17 (c d : Dev nD) : (Rd m).payload (dc c 17) 0 d = c3At c qb (ctxV m) := rfl
theorem payload_n18 (c d : Dev nD) : (Rd m).payload (dc c 18) 0 d = c0At c fullShare.left (ctxV m) := rfl
theorem payload_n19 (c d : Dev nD) : (Rd m).payload (dc c 19) 0 d = c1At c fullShare.left (ctxV m) := rfl
theorem payload_n20 (c d : Dev nD) : (Rd m).payload (dc c 20) 0 d = c2At c fullShare.left (ctxV m) := rfl
theorem payload_n21 (c d : Dev nD) : (Rd m).payload (dc c 21) 0 d = c3At c fullShare.left (ctxV m) := rfl
theorem payload_n22 (c d : Dev nD) : (Rd m).payload (dc c 22) 0 d = c0At c fullShare (ctxV m) := rfl
theorem payload_n23 (c d : Dev nD) : (Rd m).payload (dc c 23) 0 d = c1At c fullShare (ctxV m) := rfl
theorem payload_n24 (c d : Dev nD) : (Rd m).payload (dc c 24) 0 d = c2At c fullShare (ctxV m) := rfl
theorem payload_n25 (c d : Dev nD) : (Rd m).payload (dc c 25) 0 d = c3At c fullShare (ctxV m) := rfl
theorem barPay_01 : (barPay 0 1 : sProp 𝕄) = chunksAny 1 := rfl
theorem barPay_03 : (barPay 0 3 : sProp 𝕄) = chunksAny 3 := rfl
theorem barPay_10 : (barPay 1 0 : sProp 𝕄) = kvAny 0 := rfl
theorem barPay_12 : (barPay 1 2 : sProp 𝕄) = chunksAny 2 := rfl
theorem barPay_00 : (barPay 0 0 : sProp 𝕄) = iprop(emp) := rfl
theorem barPay_02 : (barPay 0 2 : sProp 𝕄) = iprop(emp) := rfl
theorem barPay_11 : (barPay 1 1 : sProp 𝕄) = iprop(emp) := rfl
theorem barPay_13 : (barPay 1 3 : sProp 𝕄) = iprop(emp) := rfl
theorem barPay_2 (d : Dev nD) : (barPay 2 d : sProp 𝕄) = iprop(emp) := rfl
theorem barPay_3 (d : Dev nD) : (barPay 3 d : sProp 𝕄) = iprop(emp) := rfl

/-! ## What each device owes at launch; the levels -/

/-- The units device `c` owes: one on every barrier cell, and the credit of each copy it sends, on the receiver's cell. -/
def dueL (c : Dev nD) : List (Pay nD τ sig) := match c with
  | 0 => [(bar 0, 0, 1), (bar 1, 0, 1), (bar 2, 0, 1), (bar 3, 0, 1), (dc 1 22, 0, NC), (dc 3 22, 0, NC), (dc 1 23, 0, NC), (dc 3 23, 0, NC),
      (dc 1 24, 0, NC), (dc 3 24, 0, NC), (dc 1 25, 0, NC), (dc 3 25, 0, NC)]
  | 1 => [(bar 0, 0, 1), (bar 1, 0, 1), (bar 2, 0, 1), (bar 3, 0, 1), (dc 0 8, 0, NK), (dc 0 9, 0, NK), (dc 2 22, 0, NC), (dc 2 23, 0, NC), (dc 2 24, 0, NC), (dc 2 25, 0, NC)]
  | 2 => [(bar 0, 0, 1), (bar 1, 0, 1), (bar 2, 0, 1), (bar 3, 0, 1)]
  | 3 => [(bar 0, 0, 1), (bar 1, 0, 1), (bar 2, 0, 1), (bar 3, 0, 1)]

def O₀ (c : Dev nD) : CellTallies nD τ sig ℕ := tallyL (dueL c)

def L (g : GSem nD τ sig) : Finset ℕ := if g.1.2 = .tc then {0} else ∅
/-- A cell's level: barriers below the keys' and values' arrivals, these below the chunks' arrivals on devices 1 and 3, these
    below the chunks' arrivals on device 2; staging and departures lowest. -/
def lv (g : GSem nD τ sig) (_ : ℕ) : ℕ := match g.2 with
  | .reg _ => 1
  | .dma n => if n.val < 8 then 0 else if n.val < 10 then 2 else if n.val < 22 then 0 else if g.1.1 = 2 then 4 else 3

theorem L_of_ne (g : GSem nD τ sig) (h : g.1.2 ≠ .tc) : L g = ∅ := if_neg h
theorem L_tc (c : Dev nD) (sm : SemLoc sig) : L ((c : Thread nD τ), sm) = {0} := if_pos rfl

/-- A device may wait on its cell `sm` while it owes a list of payments to cells of higher level. -/
theorem mayWait (c : Dev nD) (sm : SemLoc sig) (l : List (Pay nD τ sig))
    (hl : ∀ x ∈ l, x.1.1.2 = .tc ∧ x.2.1 = 0 ∧ lv ((c : Thread nD τ), sm) 0 < lv x.1 0) :
    (levAts L lv : sProp 𝕄) ⊢ MayWait (c : Thread nD τ) sm 0 (tallyL l) :=
  MayOwe.of_cut (L := L) (lev := lv) (lv ((c : Thread nD τ), sm) 0) (fun p hp => by rw [Finset.mem_singleton.mp hp, L_tc]; exact Finset.mem_singleton_self _)
    (fun g u hg => by
      obtain ⟨x, hx, rfl, rfl⟩ := TalkSites.tallyL_pos hg
      obtain ⟨h1, h2, -⟩ := hl x hx
      unfold L; rw [if_pos h1, h2]; exact Finset.mem_singleton_self _)
    (fun p hp => by rw [Finset.mem_singleton.mp hp])
    (fun g u hg => by
      obtain ⟨x, hx, rfl, rfl⟩ := TalkSites.tallyL_pos hg
      obtain ⟨-, h2, h3⟩ := hl x hx
      rw [h2]; exact h3)

end Cert.KernelIdeal.Run

end

end
-- ==== Proof.KernelIdeal.Ghost.lean ====
/-
# What a device starts its kernel from and what it leaves: invariants, positions, tokens, credit; the buffers cut into chunks
-/
module

public import proofs.«01_k».proof.Proof.KernelIdeal.Protocol
public import Idealize.ShloMosaic.Lib.Pipeline.BigSepL

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The chunks -/

/-- A chunk's elements are those of its first index. -/
theorem mem_chunk (o : ℕ) (inb : ∀ a, (![o, 0, 0] : Fin 3 → ℕ) a + S1x512x256.size a ≤ S4x512x256.size a) (i : S4x512x256.Idx) :
    i ∈ ((ctxM.slice (Rect.unit (s := S4x512x256) ![o, 0, 0] S1x512x256.size inb) (fun _ => rfl)).squeeze S512x256 squeezes_S1x512x256_S512x256 :
      Memref sig .tc .vmem S512x256 .f32).view.set ↔ (i 0).val = o := by
  have e : ((ctxM.slice (Rect.unit (s := S4x512x256) ![o, 0, 0] S1x512x256.size inb) (fun _ => rfl)).squeeze S512x256 squeezes_S1x512x256_S512x256 :
      Memref sig .tc .vmem S512x256 .f32).view.set = (Rect.unit (s := S4x512x256) ![o, 0, 0] S1x512x256.size inb).set :=
    (View.set_reshape _ _).trans (View.set_slice_whole cc0_scratch0 _)
  rw [e, Rect.mem_set_unit]
  constructor
  · intro h
    have h0 := h 0
    change o ≤ (i 0).val ∧ (i 0).val < o + 1 at h0
    omega
  · intro h a
    have hi := (i a).isLt
    match a with
    | ⟨0, _⟩ => change o ≤ (i 0).val ∧ (i 0).val < o + 1; omega
    | ⟨1, _⟩ => change 0 ≤ _ ∧ (i _).val < 0 + 512; exact ⟨Nat.zero_le _, by rw [Nat.zero_add]; exact hi⟩
    | ⟨2, _⟩ => change 0 ≤ _ ∧ (i _).val < 0 + 256; exact ⟨Nat.zero_le _, by rw [Nat.zero_add]; exact hi⟩

theorem mem_c0 (i : S4x512x256.Idx) : i ∈ (cM0 : Memref sig .tc .vmem S512x256 .f32).view.set ↔ (i 0).val = 0 := mem_chunk 0 _ i
theorem mem_c1 (i : S4x512x256.Idx) : i ∈ (cM1 : Memref sig .tc .vmem S512x256 .f32).view.set ↔ (i 0).val = 1 := mem_chunk 1 _ i
theorem mem_c2 (i : S4x512x256.Idx) : i ∈ (cM2 : Memref sig .tc .vmem S512x256 .f32).view.set ↔ (i 0).val = 2 := mem_chunk 2 _ i
theorem mem_c3 (i : S4x512x256.Idx) : i ∈ (cM3 : Memref sig .tc .vmem S512x256 .f32).view.set ↔ (i 0).val = 3 := mem_chunk 3 _ i

/-- The four chunks' elements, by number. -/
def cSet (k : Fin 4) : Finset S4x512x256.Idx := match k with
  | 0 => (cM0 : Memref sig .tc .vmem S512x256 .f32).view.set
  | 1 => (cM1 : Memref sig .tc .vmem S512x256 .f32).view.set
  | 2 => (cM2 : Memref sig .tc .vmem S512x256 .f32).view.set
  | 3 => (cM3 : Memref sig .tc .vmem S512x256 .f32).view.set
theorem mem_cSet (k : Fin 4) (i : S4x512x256.Idx) : i ∈ cSet k ↔ (i 0).val = k.val := by
  match k with
  | 0 => exact mem_c0 i
  | 1 => exact mem_c1 i
  | 2 => exact mem_c2 i
  | 3 => exact mem_c3 i
theorem cSet_disjoint (k k' : Fin 4) (h : k ≠ k') : Disjoint (cSet k) (cSet k') := by
  rw [Finset.disjoint_left]
  intro i hi hi'
  rw [mem_cSet] at hi hi'
  exact h (Fin.ext (hi.symm.trans hi'))
theorem cSet_cover : (Finset.univ : Finset (Fin 4)).biUnion cSet = Finset.univ := by
  refine Finset.eq_univ_iff_forall.mpr fun i => Finset.mem_biUnion.mpr ⟨i 0, Finset.mem_univ _, (mem_cSet _ _).mpr rfl⟩

/-- The whole attention buffer is its four chunks; -/
theorem ctx_split (c : Dev nD) (q : PosShare TreeShare) (f : Buf (Elt F) ((c : Thread nD τ).loc cc0_scratch0)) :
    ((((c : Thread nD τ).loc cc0_scratch0) ↦{q} f) : sProp 𝕄) = iprop(c0At c q f ∗ c1At c q f ∗ c2At c q f ∗ c3At c q f) := by
  have h := pointsTo_biUnion (Val := Elt F) (Ix := ℕ) (Name := ℕ) (U := UU) (Lvl := ℕ) (ℓ := (c : Thread nD τ).loc cc0_scratch0) (q := q) (f := f) Finset.univ cSet
    (fun t _ t' _ hne => cSet_disjoint t t' hne)
  rw [cSet_cover, bigSep_univ_eq_bigSepL [0, 1, 2, 3] (by decide) (by decide)] at h
  exact h
/-- and four chunks at any contents are the buffer at some. -/
theorem ctx_join (c : Dev nD) (f0 f1 f2 f3 : Buf (Elt F) ((c : Thread nD τ).loc cc0_scratch0)) :
    iprop(c0At c fullShare f0 ∗ c1At c fullShare f1 ∗ c2At c fullShare f2 ∗ c3At c fullShare f3)
      ⊢ (iprop(∃ g, (((c : Thread nD τ).loc cc0_scratch0) ↦{fullShare} g)) : sProp 𝕄) := by
  have h := pointsTo_biUnion_join (Val := Elt F) (Ix := ℕ) (Name := ℕ) (U := UU) (Lvl := ℕ) (ℓ := (c : Thread nD τ).loc cc0_scratch0) (q := fullShare) Finset.univ cSet
    (fun k : Fin 4 => match k with | 0 => f0 | 1 => f1 | 2 => f2 | 3 => f3) f0 (fun t _ t' _ hne => cSet_disjoint t t' hne)
  rw [cSet_cover, bigSep_univ_eq_bigSepL [0, 1, 2, 3] (by decide) (by decide)] at h
  iintro H
  ihave H' := (show iprop(c0At c fullShare f0 ∗ c1At c fullShare f1 ∗ c2At c fullShare f2 ∗ c3At c fullShare f3) ⊢ _ from h) $$ H
  icases H' with ⟨%g, -, H⟩
  iexists g; iexact H

/-- A chunk's (or a buffer's) points-to at a share is its two halves. -/
theorem half (ℓ : Loc nD τ sig) (I : Finset (Idx ℓ)) (q : PosShare TreeShare) (f : Buf (Elt F) ℓ) :
    (ℓ ↦[I]{q} f : sProp 𝕄) ⊣⊢ iprop((ℓ ↦[I]{q.left} f) ∗ ℓ ↦[I]{q.right} f) := pointsTo_share (PosShare.mem_left_op_right q)

theorem k1At_whole (c : Dev nD) (q : PosShare TreeShare) (f : Buf (Elt F) ((c : Thread nD τ).loc cc0_scratch1)) :
    (k1At c q f : sProp 𝕄) = (((c : Thread nD τ).loc cc0_scratch1) ↦{q} f) := congrArg (fun I => (((c : Thread nD τ).loc cc0_scratch1) ↦[I]{q} f : sProp 𝕄)) (View.set_whole cc0_scratch1)
theorem v1At_whole (c : Dev nD) (q : PosShare TreeShare) (f : Buf (Elt F) ((c : Thread nD τ).loc cc0_scratch2)) :
    (v1At c q f : sProp 𝕄) = (((c : Thread nD τ).loc cc0_scratch2) ↦{q} f) := congrArg (fun I => (((c : Thread nD τ).loc cc0_scratch2) ↦[I]{q} f : sProp 𝕄)) (View.set_whole cc0_scratch2)

/-! ## The cells -/

/-- Every cell of the protocol: each device's barrier cell and its DMA cells past the staging ones. -/
def csem : Fin 21 → SemLoc sig := fun k => if h : k.val < 20 then .dma ⟨k.val + 6, by change _ < 26; omega⟩ else .reg barS
abbrev kcell (ck : Dev nD × Fin 21) : GSem nD τ sig := ((ck.1 : Thread nD τ), csem ck.2)
theorem csem_injective : Function.Injective csem := by decide
theorem kcell_injective : Function.Injective (kcell : Dev nD × Fin 21 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

theorem bar_mem (c : Dev nD) : bar c ∈ allCells := Finset.mem_map.mpr ⟨(c, 20), Finset.mem_univ _, rfl⟩
theorem dc_mem (c : Dev nD) (n : DmaSem sig) (h : 6 ≤ n.val) : dc c n ∈ allCells :=
  Finset.mem_map.mpr ⟨(c, ⟨n.val - 6, by have := n.isLt; change _ < 26 at this; omega⟩), Finset.mem_univ _, by
    have hn := n.isLt
    change _ < 26 at hn
    show (_, csem _) = _
    unfold csem
    rw [dif_pos (by show n.val - 6 < 20; omega)]
    exact congrArg _ (congrArg SemLoc.dma (Fin.ext (by show n.val - 6 + 6 = n.val; omega)))⟩

/-- All cells' invariants, under the names `K`, and that each has reached round 0. -/
def records (K : GSem nD τ sig → ℕ) : sProp 𝕄 :=
  iprop((bigSep allCells fun g => cellInv ER (Rd m) (K g) g) ∗ bigSep allCells fun g => reached ER g 0)

instance records_persistent (K : GSem nD τ sig → ℕ) : BI.Persistent (records m K) := by unfold records; infer_instance

theorem inv_of (K : GSem nD τ sig → ℕ) (g : GSem nD τ sig) (h : g ∈ allCells) : (records m K) ⊢ cellInv ER (Rd m) (K g) g := by
  unfold records; iintro ⟨#H, -⟩; iapply (show bigSep allCells (fun g => cellInv ER (Rd m) (K g) g) ⊢ cellInv ER (Rd m) (K g) g from bigSep_elim h); iexact H
theorem reached_of (K : GSem nD τ sig → ℕ) (g : GSem nD τ sig) (h : g ∈ allCells) : (records m K) ⊢ reached ER g 0 := by
  unfold records; iintro ⟨-, #H⟩; iapply (show bigSep allCells (fun g => (reached ER g 0 : sProp 𝕄)) ⊢ reached ER g 0 from bigSep_elim h); iexact H

/-! ## What is device `c`'s own -/

/-- Its DMA cells that carry a transfer, and those that carry none. -/
def liveL (c : Dev nD) : List (DmaSem sig) := match c with
  | 0 => [8, 9, 10, 11, 12, 13, 14, 15, 16, 17]
  | 1 => [6, 7, 18, 19, 20, 21, 22, 23, 24, 25]
  | 2 => [22, 23, 24, 25]
  | 3 => [22, 23, 24, 25]
def deadL (c : Dev nD) : List (DmaSem sig) := match c with
  | 0 => [6, 7, 18, 19, 20, 21, 22, 23, 24, 25]
  | 1 => [8, 9, 10, 11, 12, 13, 14, 15, 16, 17]
  | 2 => [6, 7, 8, 9, 10, 11, 12, 13, 14, 15, 16, 17, 18, 19, 20, 21]
  | 3 => [6, 7, 8, 9, 10, 11, 12, 13, 14, 15, 16, 17, 18, 19, 20, 21]
theorem liveL_live : ∀ c, ∀ n ∈ liveL c, live c n = true ∧ 6 ≤ n.val := by decide
theorem deadL_dead : ∀ c, ∀ n ∈ deadL c, live c n = false ∧ 6 ≤ n.val := by decide

/-- Its positions: at round `r` of its barrier cell and of its live cells, at round 0 of the others. -/
def posns (c : Dev nD) (r : ℕ) : sProp 𝕄 :=
  iprop(atPos ER (bar c) r ∅ 0 ∗ (bigSepL (liveL c) fun n => atPos ER (dc c n) r ∅ 0) ∗ bigSepL (deadL c) fun n => atPos ER (dc c n) 0 ∅ 0)

/-- The duties it pays. -/
def payL (c : Dev nD) : List (GSem nD τ sig × Dev nD) := match c with
  | 0 => [(bar 0, 0), (bar 1, 0), (bar 2, 0), (bar 3, 0), (dc 0 10, 0), (dc 0 11, 0), (dc 0 12, 0), (dc 0 13, 0), (dc 0 14, 0), (dc 0 15, 0), (dc 0 16, 0), (dc 0 17, 0),
      (dc 1 22, 0), (dc 1 23, 0), (dc 1 24, 0), (dc 1 25, 0), (dc 3 22, 0), (dc 3 23, 0), (dc 3 24, 0), (dc 3 25, 0)]
  | 1 => [(bar 0, 1), (bar 1, 1), (bar 2, 1), (bar 3, 1), (dc 1 6, 0), (dc 1 7, 0), (dc 0 8, 0), (dc 0 9, 0), (dc 1 18, 0), (dc 1 19, 0), (dc 1 20, 0), (dc 1 21, 0),
      (dc 2 22, 0), (dc 2 23, 0), (dc 2 24, 0), (dc 2 25, 0)]
  | 2 => [(bar 0, 2), (bar 1, 2), (bar 2, 2), (bar 3, 2)]
  | 3 => [(bar 0, 3), (bar 1, 3), (bar 2, 3), (bar 3, 3)]
def payToks (c : Dev nD) : sProp 𝕄 := bigSepL (payL c) fun x => dutyTok ER x.1 0 x.2

/-- The credit it waits with. -/
def credL (c : Dev nD) : List (Pay nD τ sig) := match c with
  | 0 => [(bar 0, 0, 4), (dc 0 8, 0, NK), (dc 0 9, 0, NK)]
  | 1 => [(bar 1, 0, 4), (dc 1 22, 0, NC), (dc 1 23, 0, NC), (dc 1 24, 0, NC), (dc 1 25, 0, NC)]
  | 2 => [(bar 2, 0, 4), (dc 2 22, 0, NC), (dc 2 23, 0, NC), (dc 2 24, 0, NC), (dc 2 25, 0, NC)]
  | 3 => [(bar 3, 0, 4), (dc 3 22, 0, NC), (dc 3 23, 0, NC), (dc 3 24, 0, NC), (dc 3 25, 0, NC)]
def creds (c : Dev nD) : sProp 𝕄 := bigSepL (credL c) fun x => cred x.tally

/-- The counters of its own cells, and of its barrier cell, at zero. -/
def zeros (c : Dev nD) : sProp 𝕄 :=
  iprop(semVal (bar c) 0 ∗ (bigSepL (liveL c) fun n => semVal (dc c n) 0) ∗ bigSepL (deadL c) fun n => semVal (dc c n) 0)

theorem bigSepL_two {I : Type} (i j : I) (l : List I) (Φ : I → sProp 𝕄) : bigSepL (i :: j :: l) Φ = iprop(Φ i ∗ bigSepL (j :: l) Φ) := rfl

/-- A persistent assertion goes to every entry of a list. -/
theorem bigSepL_with_persistent {I : Type} {R : sProp 𝕄} [BI.Persistent R] {l : List I} {Φ Ψ : I → sProp 𝕄}
    (h : ∀ i ∈ l, iprop(R ∗ Φ i) ⊢ Ψ i) : iprop(R ∗ bigSepL l Φ) ⊢ bigSepL l Ψ := by
  induction l with
  | nil => iintro ⟨-, H⟩; iexact H
  | cons i l ih =>
    rw [bigSepL_cons', bigSepL_cons']
    iintro ⟨#HR, H1, H2⟩
    isplitl [H1]
    · iapply (h i List.mem_cons_self)
      isplitr; · iexact HR
      iexact H1
    · iapply (ih fun j hj => h j (List.mem_cons_of_mem _ hj))
      isplitr; · iexact HR
      iexact H2

theorem bigSepL_fupd {I : Type} {M : Set ℕ} (l : List I) (Φ : I → sProp 𝕄) :
    bigSepL l (fun i => iprop(|={M}=> Φ i)) ⊢ iprop(|={M}=> bigSepL l Φ) := by
  induction l with
  | nil => iintro H; imodintro; iexact H
  | cons i l ih =>
    rw [bigSepL_cons', bigSepL_cons']
    iintro ⟨H1, H2⟩
    imod H1 with H1
    ihave H3 := ih $$ H2
    imod H3 with H3
    imodintro
    isplitl [H1] <;> iassumption

/-- With every round over, all of a device's cells close and their counters are its own again, at zero. -/
theorem close_all (K : GSem nD τ sig → ℕ) (c : Dev nD) : iprop(records m K ∗ posns c 1) ⊢ iprop(|={Set.univ}=> zeros (F := F) c) := by
  unfold posns zeros
  iintro ⟨#HR, Hb, Hl, Hd⟩
  imod (Rounds.cell_close ER (Rd m) (g := bar c) (Set.mem_univ (K (bar c))) (fun h => h) (R := 1) (duties_later m (bar c))) $$ [Hb] with Hb
  · isplitr; · iapply (inv_of m K (bar c) (bar_mem c)); iexact HR
    iexact Hb
  have hl : iprop(records m K ∗ bigSepL (liveL c) fun n => atPos ER (dc c n) 1 ∅ 0) ⊢ iprop(|={Set.univ}=> bigSepL (liveL c) fun n => semVal (dc c n) 0 : sProp 𝕄) :=
    (bigSepL_with_persistent (Φ := fun n => atPos ER (dc c n) 1 ∅ 0) (Ψ := fun n => iprop(|={Set.univ}=> semVal (dc c n) 0)) fun n hn => by
      iintro ⟨#HR, H⟩
      iapply (Rounds.cell_close ER (Rd m) (g := dc c n) (Set.mem_univ (K (dc c n))) (fun h => h) (R := 1) (duties_later m (dc c n)))
      isplitr; · iapply (inv_of m K (dc c n) (dc_mem c n (liveL_live c n hn).2)); iexact HR
      iexact H).trans (bigSepL_fupd _ _)
  have hd : iprop(records m K ∗ bigSepL (deadL c) fun n => atPos ER (dc c n) 0 ∅ 0) ⊢ iprop(|={Set.univ}=> bigSepL (deadL c) fun n => semVal (dc c n) 0 : sProp 𝕄) :=
    (bigSepL_with_persistent (Φ := fun n => atPos ER (dc c n) 0 ∅ 0) (Ψ := fun n => iprop(|={Set.univ}=> semVal (dc c n) 0)) fun n hn => by
      iintro ⟨#HR, H⟩
      iapply (Rounds.cell_close ER (Rd m) (g := dc c n) (Set.mem_univ (K (dc c n))) (fun h => h) (R := 0) (fun r _ => duties_dead m c n (deadL_dead c n hn).1 r))
      isplitr; · iapply (inv_of m K (dc c n) (dc_mem c n (deadL_dead c n hn).2)); iexact HR
      iexact H).trans (bigSepL_fupd _ _)
  imod hl $$ [Hl] with Hl
  · isplitr; · iexact HR
    iexact Hl
  imod hd $$ [Hd] with Hd
  · isplitr; · iexact HR
    iexact Hd
  imodintro
  isplitl [Hb]; · iexact Hb
  isplitl [Hl] <;> iassumption

end Cert.KernelIdeal.Run

end

end
-- ==== Proof.KernelIdeal.Out.lean ====
/-
# The result a device has stored: its two batch entries, each the last of two stores
-/
module

public import proofs.«01_k».proof.Proof.KernelIdeal.Ghost
public import Idealize.ShloMosaic.Lib.Writes

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig ℕ (Elt F) ℕ UU ℕ

variable (m : (ℓ : Loc nD τ sig) → Buf (Elt F) ℓ)

/-- A load of the rectangle just stored reads the stored values. -/
theorem readCov_head {κ : Kind} {sp : Space} {s : Shape} {e : EltTy} (v : View sig κ sp s e) (r : Rect s) (w : r.shape.Idx → Elt F e)
    (L : List (View.Piece (Elt F) s e)) : v.readCov (⟨r, w⟩ :: L) r.toLoadRect = w :=
  funext fun j => View.read_writes_cons_emb v _ r w L j

/-- After stores of batch entry 0 and then of batch entry 1 the result reads as the last store of each. -/
theorem read_entries (fo : (cc0_stg5_0 : Ref sig .tc).ty.Contents (Elt F)) (w1 w1' : oRect1.shape.Idx → Elt F .f32) (w0 w0' : oRect0.shape.Idx → Elt F .f32) (i : S2x512x768.Idx) :
    oM.view.read (Elt F) (oM.view.writes (Elt F) fo [⟨oRect1, w1⟩, ⟨oRect1, w1'⟩, ⟨oRect0, w0⟩, ⟨oRect0, w0'⟩]) i = (if (i 0).val = 0 then w0 else w1) (inEntry i) := by
  have h := (i 0).isLt
  change _ < 2 at h
  by_cases hi : (i 0).val = 0
  · rw [if_pos hi, View.read_writes_cons_miss_of_axis _ _ _ _ i 0 1 1 rfl rfl rfl (Or.inl (by omega)), View.read_writes_cons_miss_of_axis _ _ _ _ i 0 1 1 rfl rfl rfl (Or.inl (by omega))]
    refine View.read_writes_cons_hit_of_coords _ _ oRect0 w0 _ (inEntry i) i fun a => ?_
    match a with
    | ⟨0, _⟩ => exact hi
    | ⟨1, _⟩ => show (i 1).val = 0 + 1 * (i 1).val; omega
    | ⟨2, _⟩ => show (i 2).val = 0 + 1 * (i 2).val; omega
  · rw [if_neg hi]
    refine View.read_writes_cons_hit_of_coords _ _ oRect1 w1 _ (inEntry i) i fun a => ?_
    match a with
    | ⟨0, _⟩ => show (i 0).val = 1 + 1 * 0; omega
    | ⟨1, _⟩ => show (i 1).val = 0 + 1 * (i 1).val; omega
    | ⟨2, _⟩ => show (i 2).val = 0 + 1 * (i 2).val; omega

/-- Two stores of each batch entry, the last of each its result: the device's result. -/
theorem out_points (c : Dev nD) (fo : Buf (Elt F) ((c : Thread nD τ).loc cc0_stg5_0)) (w1 w1' : oRect1.shape.Idx → Elt F .f32) (w0 w0' : oRect0.shape.Idx → Elt F .f32)
    (h1 : w1 = out1 m c) (h0 : w0 = out0 m c) :
    (oM.view.loc (c : Thread nD τ) ↦[oM.view.set]{fullShare} oM.view.writes (Elt F) fo [⟨oRect1, w1⟩, ⟨oRect1, w1'⟩, ⟨oRect0, w0⟩, ⟨oRect0, w0'⟩])
      ⊢ (oM.view.loc (c : Thread nD τ) ↦[oM.view.set]{fullShare} outV m c : sProp 𝕄) := by
  have e : ∀ f : (cc0_stg5_0 : Ref sig .tc).ty.Contents (Elt F), oM.view.read (Elt F) f = f := fun _ => rfl
  have h := read_entries fo w1 w1' w0 w0'
  generalize oM.view.writes (Elt F) fo [⟨oRect1, w1⟩, ⟨oRect1, w1'⟩, ⟨oRect0, w0⟩, ⟨oRect0, w0'⟩] = f at h ⊢
  rw [e] at h
  refine Entails.of_eq (pointsTo_congr fun i _ => (h i).trans ?_)
  unfold outV
  rw [h1, h0]

/-- Each batch entry's first chunk by the output weights, -/
def half0 (c : Dev nD) : oRect0.shape.Idx → Elt F .f32 := k0_pay4 (ctxM.view.readAt (Elt F) ctxRect0.toLoadRect (ctxV m)) (woTop m c)
def half1 (c : Dev nD) : oRect1.shape.Idx → Elt F .f32 := k0_pay4 (ctxM.view.readAt (Elt F) ctxRect2.toLoadRect (ctxV m)) (woTop m c)
/-- and the stores up to batch entry 0, -/
def stores0 (c : Dev nD) : List (View.Piece (Elt F) S2x512x768 .f32) :=
  [⟨oRect0, k0_pay5 (ctxM.view.readAt (Elt F) ctxRect1.toLoadRect (ctxV m)) (woBot m c) (oM.view.readCov [⟨oRect0, half0 m c⟩] oRect0.toLoadRect)⟩, ⟨oRect0, half0 m c⟩]
/-- then of batch entry 1, each second store adding to what the first left. -/
def stores1 (c : Dev nD) : List (View.Piece (Elt F) S2x512x768 .f32) :=
  ⟨oRect1, k0_pay5 (ctxM.view.readAt (Elt F) ctxRect3.toLoadRect (ctxV m)) (woBot m c) (oM.view.readCov (⟨oRect1, half1 m c⟩ :: stores0 m c) oRect1.toLoadRect)⟩
    :: ⟨oRect1, half1 m c⟩ :: stores0 m c

/-- They leave the device's result. -/
theorem out_stored (c : Dev nD) (fo : Buf (Elt F) ((c : Thread nD τ).loc cc0_stg5_0)) :
    (oM.view.loc (c : Thread nD τ) ↦[oM.view.set]{fullShare} oM.view.writes (Elt F) fo (stores1 m c))
      ⊢ (oM.view.loc (c : Thread nD τ) ↦[oM.view.set]{fullShare} outV m c : sProp 𝕄) :=
  out_points m c fo _ _ _ _ (congrArg (k0_pay5 _ _) (readCov_head _ _ _ _)) (congrArg (k0_pay5 _ _) (readCov_head _ _ _ _))

abbrev k1Rect : Rect S2x128x8x64 := Rect.unit (s := S2x128x8x64) ![0, 0, 0, 0] S2x128x8x64.size inb_S2x128x8x64_S2x128x8x64_0_0_0_0

/-- A store of the whole buffer leaves what it stored. -/
theorem k1_stored (c : Dev nD) (fk : Buf (Elt F) ((c : Thread nD τ).loc cc0_scratch1)) :
    (k1M.view.loc (c : Thread nD τ) ↦[k1M.view.set]{fullShare} k1M.view.writes (Elt F) fk [⟨k1Rect, k1V m⟩]) ⊢ (k1M.view.loc (c : Thread nD τ) ↦[k1M.view.set]{fullShare} k1V m : sProp 𝕄) := by
  have e : ∀ f : (cc0_scratch1 : Ref sig .tc).ty.Contents (Elt F), k1M.view.read (Elt F) f = f := fun _ => rfl
  have h := fun i : S2x128x8x64.Idx => View.read_writes_cons_hit_of_coords k1M.view (fk : (cc0_scratch1 : Ref sig .tc).ty.Contents (Elt F)) k1Rect (k1V m) [] i i fun a => by
    match a with
    | ⟨0, _⟩ => show (i 0).val = 0 + 1 * (i 0).val; omega
    | ⟨1, _⟩ => show (i 1).val = 0 + 1 * (i 1).val; omega
    | ⟨2, _⟩ => show (i 2).val = 0 + 1 * (i 2).val; omega
    | ⟨3, _⟩ => show (i 3).val = 0 + 1 * (i 3).val; omega
  generalize k1M.view.writes (Elt F) fk [⟨k1Rect, k1V m⟩] = f at h ⊢
  rw [e] at h
  exact Entails.of_eq (pointsTo_congr fun i _ => h i)
theorem v1_stored (c : Dev nD) (fk : Buf (Elt F) ((c : Thread nD τ).loc cc0_scratch2)) :
    (v1M.view.loc (c : Thread nD τ) ↦[v1M.view.set]{fullShare} v1M.view.writes (Elt F) fk [⟨k1Rect, v1V m⟩]) ⊢ (v1M.view.loc (c : Thread nD τ) ↦[v1M.view.set]{fullShare} v1V m : sProp 𝕄) := by
  have e : ∀ f : (cc0_scratch2 : Ref sig .tc).ty.Contents (Elt F), v1M.view.read (Elt F) f = f := fun _ => rfl
  have h := fun i : S2x128x8x64.Idx => View.read_writes_cons_hit_of_coords v1M.view (fk : (cc0_scratch2 : Ref sig .tc).ty.Contents (Elt F)) k1Rect (v1V m) [] i i fun a => by
    match a with
    | ⟨0, _⟩ => show (i 0).val = 0 + 1 * (i 0).val; omega
    | ⟨1, _⟩ => show (i 1).val = 0 + 1 * (i 1).val; omega
    | ⟨2, _⟩ => show (i 2).val = 0 + 1 * (i 2).val; omega
    | ⟨3, _⟩ => show (i 3).val = 0 + 1 * (i 3).val; omega
  generalize v1M.view.writes (Elt F) fk [⟨k1Rect, v1V m⟩] = f at h ⊢
  rw [e] at h
  exact Entails.of_eq (pointsTo_congr fun i _ => h i)

/-- A chunk at some contents. -/
theorem chunks_fold (c : Dev nD) (f0 f1 f2 f3 : Buf (Elt F) ((c : Thread nD τ).loc cc0_scratch0)) :
    iprop(c0At c fullShare f0 ∗ c1At c fullShare f1 ∗ c2At c fullShare f2 ∗ c3At c fullShare f3) ⊢ (chunksAny c : sProp 𝕄) := by
  unfold chunksAny anyAt
  iintro ⟨H0, H1, H2, H3⟩
  isplitl [H0]; · iexists f0; iexact H0
  isplitl [H1]; · iexists f1; iexact H1
  isplitl [H2]; · iexists f2; iexact H2
  iexists f3; iexact H3
theorem kv_fold (c : Dev nD) (f1 : Buf (Elt F) ((c : Thread nD τ).loc cc0_scratch1)) (f2 : Buf (Elt F) ((c : Thread nD τ).loc cc0_scratch2)) :
    iprop(k1At c fullShare f1 ∗ v1At c fullShare f2) ⊢ (kvAny c : sProp 𝕄) := by
  unfold kvAny anyAt
  iintro ⟨H0, H1⟩
  isplitl [H0]; · iexists f1; iexact H0
  iexists f2; iexact H1

end Cert.KernelIdeal.Run

end

end
-- ==== Proof.KernelIdeal.Common.lean ====
/-
# The body's frame: what a device starts from and what it leaves
-/
module

public import proofs.«01_k».proof.Proof.KernelIdeal.Out
public import Idealize.ShloMosaic.Lib.Exec.Rounds

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Pipeline (Dat Cfg Window BodyObligation cellOf)
open Idealize.ShloMosaic.Tactic

variable {F : FTy → Type} [FloatOps F] [Named F]

local notation "𝕄" => MT nD τ sig ℕ (Elt F) ℕ UU ℕ

variable (m : (ℓ : Loc nD τ sig) → Buf (Elt F) ℓ) (ρ : Dev nD → PrngReg)

attribute [sl_rounds] duties_bar duties_dma mem_bar mem_dma amount_bar amount_kv amount_ctx expect_bar expect_kv expect_ctx payload_bar payload_n6 payload_n7 payload_n8 payload_n9 payload_n10 payload_n11 payload_n12 payload_n13 payload_n14 payload_n15 payload_n16 payload_n17 payload_n18 payload_n19 payload_n20 payload_n21 payload_n22 payload_n23 payload_n24 payload_n25
  barPay_01 barPay_03 barPay_10 barPay_12 barPay_00 barPay_02 barPay_11 barPay_13 barPay_2 barPay_3

/-- The body on every staged buffer. -/
abbrev body : Prog (TpuEff nD τ sig (Elt F) Λ₀ .tc) PUnit :=
  cc0_body xM (Memref.isWhole_whole _) wqM (Memref.isWhole_whole _) kM (Memref.isWhole_whole _) vM (Memref.isWhole_whole _) woM (Memref.isWhole_whole _) oM (Memref.isWhole_whole _)
    ctxM (Memref.isWhole_whole _) k1M (Memref.isWhole_whole _) v1M (Memref.isWhole_whole _) cc0_scratch3 cc0_scratch4 cc0_scratch5 cc0_scratch6 cc0_scratch7

/-- The staging buffers: the operands as staged, the result's at `f`. -/
def stagings (c : Dev nD) (f : Buf (Elt F) ((c : Thread nD τ).loc cc0_stg5_0)) : sProp 𝕄 :=
  iprop((xM.view.loc (c : Thread nD τ) ↦[xM.view.set]{fullShare} xS m c) ∗ (wqM.view.loc (c : Thread nD τ) ↦[wqM.view.set]{fullShare} wqS m c)
    ∗ (kM.view.loc (c : Thread nD τ) ↦[kM.view.set]{fullShare} kS m c) ∗ (vM.view.loc (c : Thread nD τ) ↦[vM.view.set]{fullShare} vS m c)
    ∗ (woM.view.loc (c : Thread nD τ) ↦[woM.view.set]{fullShare} woS m c) ∗ (oM.view.loc (c : Thread nD τ) ↦[oM.view.set]{fullShare} f))

/-- What the body starts from, beside the records. -/
def start (c : Dev nD) : sProp 𝕄 := iprop(posns c 0 ∗ payToks c ∗ creds c ∗ levAts L lv ∗ chunksAny c ∗ kvAny c)
/-- What it leaves. -/
def finish (c : Dev nD) : sProp 𝕄 := iprop(posns c 1 ∗ chunksAny c ∗ kvAny c)

/-- What device 1 receives at its barrier cell; -/
theorem barPays_1 : (bigSep Finset.univ fun d : Dev nD => (barPay 1 d : sProp 𝕄)) ⊢ iprop(kvAny 0 ∗ chunksAny 2) := by
  rw [bigSep_univ_eq_bigSepL [0, 1, 2, 3] (by decide) (by decide)]
  simp only [bigSepL_two, bigSepL_singleton, barPay_10, barPay_11, barPay_12, barPay_13]
  iintro ⟨H0, -, H2, -⟩
  isplitl [H0]; · iexact H0
  iexact H2
/-- and device 0 at its own. -/
theorem barPays_0 : (bigSep Finset.univ fun d : Dev nD => (barPay 0 d : sProp 𝕄)) ⊢ iprop(chunksAny 1 ∗ chunksAny 3) := by
  rw [bigSep_univ_eq_bigSepL [0, 1, 2, 3] (by decide) (by decide)]
  simp only [bigSepL_two, bigSepL_singleton, barPay_00, barPay_01, barPay_02, barPay_03]
  iintro ⟨-, H1, -, H3⟩
  isplitl [H1]; · iexact H1
  iexact H3

/-- The devices the four signals name. -/
theorem sig1 : (⟨k0_dev1, k0_dev1_lt⟩ : Dev nD) = 0 := by decide
theorem sig2 : (⟨k0_dev2, k0_dev2_lt⟩ : Dev nD) = 1 := by decide
theorem sig3 : (⟨k0_dev3, k0_dev3_lt⟩ : Dev nD) = 2 := by decide
theorem sig4 : (⟨k0_dev4, k0_dev4_lt⟩ : Dev nD) = 3 := by decide

/-- The devices the copies name: device 1 sends keys and values to device 0 and forwards chunks to device 2; device 0 sends
    each chunk to devices 1 and 3. -/
theorem to5 (h : k0_dev5 < nD) : (⟨k0_dev5, h⟩ : Dev nD) = 0 := Fin.ext k0_dev5_eq
theorem to6 (h : k0_dev6 < nD) : (⟨k0_dev6, h⟩ : Dev nD) = 0 := Fin.ext k0_dev6_eq
theorem to7 (h : k0_dev7 < nD) : (⟨k0_dev7, h⟩ : Dev nD) = 2 := Fin.ext k0_dev7_eq
theorem to8 (h : k0_dev8 < nD) : (⟨k0_dev8, h⟩ : Dev nD) = 2 := Fin.ext k0_dev8_eq
theorem to9 (h : k0_dev9 < nD) : (⟨k0_dev9, h⟩ : Dev nD) = 2 := Fin.ext k0_dev9_eq
theorem to10 (h : k0_dev10 < nD) : (⟨k0_dev10, h⟩ : Dev nD) = 2 := Fin.ext k0_dev10_eq
theorem to11 (h : k0_dev11 < nD) : (⟨k0_dev11, h⟩ : Dev nD) = 1 := Fin.ext k0_dev11_eq
theorem to12 (h : k0_dev12 < nD) : (⟨k0_dev12, h⟩ : Dev nD) = 3 := Fin.ext k0_dev12_eq
theorem to13 (h : k0_dev13 < nD) : (⟨k0_dev13, h⟩ : Dev nD) = 1 := Fin.ext k0_dev13_eq
theorem to14 (h : k0_dev14 < nD) : (⟨k0_dev14, h⟩ : Dev nD) = 3 := Fin.ext k0_dev14_eq
theorem to15 (h : k0_dev15 < nD) : (⟨k0_dev15, h⟩ : Dev nD) = 1 := Fin.ext k0_dev15_eq
theorem to16 (h : k0_dev16 < nD) : (⟨k0_dev16, h⟩ : Dev nD) = 3 := Fin.ext k0_dev16_eq
theorem to17 (h : k0_dev17 < nD) : (⟨k0_dev17, h⟩ : Dev nD) = 1 := Fin.ext k0_dev17_eq
theorem to18 (h : k0_dev18 < nD) : (⟨k0_dev18, h⟩ : Dev nD) = 3 := Fin.ext k0_dev18_eq

end Cert.KernelIdeal.Run

end

end
-- ==== Proof.KernelIdeal.Deal.lean ====
/-
# Dealing the protocol's ghost state: every device's cells and the duties it pays, in one step over all devices
-/
module

public import proofs.«01_k».proof.Proof.KernelIdeal.Common

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL Pay credOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## A device's cells, listed -/

/-- The kernel's own semaphores. -/
abbrev osem : Fin 20 → SemLoc sig := fun k => .dma ⟨k.val + 6, by change _ < 26; omega⟩
theorem ownSemFacts : Pipeline.OwnSemFacts cfg0.spec osem := by decide

def toK (n : DmaSem sig) : Fin 20 := ⟨(n.val - 6) % 20, Nat.mod_lt _ (by decide)⟩
def idxL (c : Dev nD) : List (Fin 20) := (liveL c ++ deadL c).map toK
theorem idxL_univ : ∀ c, (Finset.univ : Finset (Fin 20)) = (idxL c).toFinset := by decide
theorem idxL_nodup : ∀ c, (idxL c).Nodup := by decide
theorem idxL_univ' : ∀ c, (Finset.univ : Finset (Fin 21)) = (20 :: (idxL c).map Fin.castSucc).toFinset := by decide
theorem idxL_nodup' : ∀ c, (20 :: (idxL c).map Fin.castSucc).Nodup := by decide

theorem bigSepL_congr {I : Type} {l : List I} {Φ Ψ : I → sProp 𝕄} (h : ∀ i ∈ l, Φ i = Ψ i) : bigSepL l Φ = bigSepL l Ψ := by
  induction l with
  | nil => rfl
  | cons i l ih => rw [bigSepL_cons', bigSepL_cons', h i List.mem_cons_self, ih fun j hj => h j (List.mem_cons_of_mem _ hj)]

theorem csem_toK (n : DmaSem sig) (h : 6 ≤ n.val) : csem (toK n).castSucc = .dma n := by
  have hn := n.isLt
  change _ < 26 at hn
  unfold csem toK
  rw [dif_pos (by show (n.val - 6) % 20 < 20; omega)]
  exact congrArg SemLoc.dma (Fin.ext (by show (n.val - 6) % 20 + 6 = n.val; omega))
theorem osem_toK (n : DmaSem sig) (h : 6 ≤ n.val) : osem (toK n) = .dma n := by
  have hn := n.isLt
  change _ < 26 at hn
  exact congrArg SemLoc.dma (Fin.ext (by show (n.val - 6) % 20 + 6 = n.val; omega))

theorem own_ge (c : Dev nD) (n : DmaSem sig) (h : n ∈ liveL c ++ deadL c) : 6 ≤ n.val :=
  (List.mem_append.mp h).elim (fun h => (liveL_live c n h).2) fun h => (deadL_dead c n h).2

/-- A conjunction over device `c`'s cells: its barrier cell, its live DMA cells, its others. -/
theorem cells_split (c : Dev nD) (Φ : GSem nD τ sig → sProp 𝕄) :
    (bigSep Finset.univ fun k : Fin 21 => Φ (kcell (c, k))) = iprop(Φ (bar c) ∗ (bigSepL (liveL c) fun n => Φ (dc c n)) ∗ bigSepL (deadL c) fun n => Φ (dc c n)) := by
  rw [bigSep_univ_eq_bigSepL _ (idxL_univ' c) (idxL_nodup' c), bigSepL_cons', ← bigSepL_append, bigSepL_map]
  unfold idxL
  rw [bigSepL_map]
  exact congrArg₂ _ rfl (bigSepL_congr fun n hn => by
    show Φ (_, csem (toK n).castSucc) = _
    rw [csem_toK n (own_ge c n hn)])

/-- The kernel's own semaphores at zero. -/
theorem ownSems0_eq (c : Dev nD) : (Pipeline.ownSems0 (Ix := ℕ) (Name := ℕ) (U := UU) (Lvl := ℕ) (Val := Elt F) (τ := τ) osem c : sProp 𝕄)
    = iprop((bigSepL (liveL c) fun n => semVal (dc c n) 0) ∗ bigSepL (deadL c) fun n => semVal (dc c n) 0) := by
  rw [Pipeline.ownSems0_eq_of_list c osem (idxL c) (idxL_univ c) (idxL_nodup c), ← bigSepL_append]
  unfold idxL
  rw [bigSepL_map]
  exact bigSepL_congr fun n hn => by rw [osem_toK n (own_ge c n hn)]
/-- The barrier semaphore is the launch's one unscoped semaphore. -/
theorem unscopedSems0_eq (c : Dev nD) : (unscopedSems0 c : sProp 𝕄) = semVal (bar c) 0 := by
  unfold unscopedSems0; rw [bigSep_eq_bigSepL_of_eq [SemLoc.reg barS] (by decide) (by decide)]; rfl
theorem zeros_exit (c : Dev nD) : (zeros c : sProp 𝕄) = iprop(unscopedSems0 c ∗ Pipeline.ownSems0 (Ix := ℕ) (Name := ℕ) (U := UU) (Lvl := ℕ) (Val := Elt F) (τ := τ) osem c) := by
  rw [ownSems0_eq, unscopedSems0_eq]; rfl

/-! ## The duties -/

def tokL (c : Dev nD) : List (GSem nD τ sig × ℕ × Dev nD) := (payL c).map fun x => (x.1, 0, x.2)
def allToks : List (GSem nD τ sig × ℕ × Dev nD) := tokL 0 ++ (tokL 1 ++ (tokL 2 ++ tokL 3))
theorem allToks_nodup : allToks.Nodup := by decide

theorem payToks_eq (c : Dev nD) : (bigSepL (tokL c) fun x => (dutyTok ER x.1 x.2.1 x.2.2 : sProp 𝕄)) = payToks c := by
  unfold tokL payToks; rw [bigSepL_map]

theorem deal_toks : bigSep allToks.toFinset (fun x => (dutyTok ER x.1 x.2.1 x.2.2 : sProp 𝕄)) = bigSep Finset.univ fun c : Dev nD => payToks c := by
  rw [bigSep_eq_bigSepL _ allToks_nodup, bigSep_univ_eq_bigSepL [0, 1, 2, 3] (by decide) (by decide)]
  unfold allToks
  rw [bigSepL_append, bigSepL_append, bigSepL_append]
  simp only [bigSepL_two, bigSepL_singleton, payToks_eq]

theorem allCells_split (Φ : GSem nD τ sig → sProp 𝕄) : bigSep allCells Φ = bigSep Finset.univ fun c : Dev nD => bigSep Finset.univ fun k : Fin 21 => Φ (kcell (c, k)) := by
  unfold allCells; rw [bigSep_map, bigSep_univ_prod]; rfl

/-- The launch element. -/
def u₀ : UU := (initOf (Pipeline.cells cfgs cellOf_inj) (Pipeline.launchToks cfgs cellOf_inj), initOf allCells allToks.toFinset)

/-- What it deals device `c`. -/
def G (c : Dev nD) : sProp 𝕄 :=
  iprop((bigSep Finset.univ fun k : Fin 21 => roundState ER (Rd m) (kcell (c, k)) 0)
    ∗ (bigSep Finset.univ fun k : Fin 21 => atPos ER (kcell (c, k)) 0 ∅ 0)
    ∗ (bigSep Finset.univ fun k : Fin 21 => reached ER (kcell (c, k)) 0) ∗ payToks c)

/-- What the one step over all devices makes of it. -/
def G' (c : Dev nD) : sProp 𝕄 := iprop(∃ K, records m K ∗ posns c 0 ∗ payToks c)

theorem fund : BI.own (ER (initOf allCells allToks.toFinset)) ⊢ (|==> bigSep Finset.univ (G m) : sProp 𝕄) := by
  iintro HX
  imod (Rounds.fund ER (Rd m) allCells allToks.toFinset) $$ HX with ⟨Hst, Hr, Hat, Htok⟩
  imodintro
  ihave Hst' := (Entails.of_eq (allCells_split fun g => roundState ER (Rd m) g 0)) $$ Hst
  ihave Hat' := (Entails.of_eq (allCells_split fun g => atPos ER g 0 ∅ 0)) $$ Hat
  ihave Hr' := (Entails.of_eq (allCells_split fun g => reached ER g 0)) $$ Hr
  ihave Htok' := (Entails.of_eq deal_toks) $$ Htok
  unfold G; simp only [bigSep_sep']
  isplitl [Hst']; · iexact Hst'
  isplitl [Hat']; · iexact Hat'
  isplitl [Hr']; · iexact Hr'
  iexact Htok'

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, cells_split c fun g => semVal g 0]
  iintro ⟨HS, HB⟩
  isplitl [HB] <;> iassumption

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 21 => reached ER (kcell (c, k)) 0) ∗ posns c 0 ∗ payToks c) := by
  unfold G
  iintro ⟨Hos, Hus, Hst, Hat, Hr, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]
  · ihave Hat := (Entails.of_eq (cells_split c fun g => (atPos ER g 0 ∅ 0 : sProp 𝕄))) $$ Hat
    unfold posns; iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 21 => reached ER (kcell (c, k)) 0) ∗ posns c 0 ∗ payToks c) : sProp 𝕄)
      ⊢ bigSep Finset.univ (G' m) := by
  rw [bigSep_sep', bigSep_sep', ← allCells_split (fun g => iprop(∃ κ : ℕ, cellInv ER (Rd m) κ g)), ← allCells_split (fun g => (reached ER g 0 : sProp 𝕄))]
  iintro ⟨HI, #HR, Hown⟩
  ihave HK := (BI.bigSep_exists_pi allCells (fun (g : GSem nD τ sig) (κ : ℕ) => (cellInv ER (Rd m) κ g : sProp 𝕄))) $$ HI
  icases HK with ⟨%K, #HI⟩
  iapply (bigSep_with_persistent (R := records m K) (Φ := fun c => iprop(posns c 0 ∗ payToks c)) fun c _ => show iprop(records m K ∗ posns c 0 ∗ payToks c) ⊢ G' m c by
    unfold G'; iintro H; iexists K; iexact H)
  isplitr
  · unfold records; isplitl; · iexact HI
    iexact HR
  iexact Hown

/-- Own and barrier semaphores of every device at once: all cells' invariants, known to all devices. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem due_tc : ∀ c, ∀ x ∈ dueL c, x.1.1.2 = .tc := by
  intro c x hx
  fin_cases c <;> simp only [dueL, List.mem_cons, List.not_mem_nil, or_false] at hx <;> rcases hx with hx | hx <;> aesop

/-- Four units of a barrier cell. -/
theorem bar_cred (g : GSem nD τ sig) : iprop(cred (tallyAt g 0 1) ∗ cred (tallyAt g 0 1) ∗ cred (tallyAt g 0 1) ∗ cred (tallyAt g 0 1)) ⊢ (cred (tallyAt g 0 4) : sProp 𝕄) := by
  have h : tallyL [(g, 0, 1), (g, 0, 1), (g, 0, 1), (g, 0, 1)] = (tallyAt g 0 4 : CellTallies nD τ sig ℕ) := by
    simp only [tallyL, add_zero, Pay.tally, tallyAt_add]
  rw [← h, TalkSites.cred_tallyL]
  exact BI.Entails.refl _

theorem credOf_0 : credOf dueL 0 = [(bar 0, 0, 1), (bar 0, 0, 1), (dc 0 8, 0, NK), (dc 0 9, 0, NK), (bar 0, 0, 1), (bar 0, 0, 1)] := rfl
theorem credOf_1 : credOf dueL 1 = [(bar 1, 0, 1), (dc 1 22, 0, NC), (dc 1 23, 0, NC), (dc 1 24, 0, NC), (dc 1 25, 0, NC), (bar 1, 0, 1), (bar 1, 0, 1), (bar 1, 0, 1)] := rfl
theorem credOf_2 : credOf dueL 2 = [(bar 2, 0, 1), (bar 2, 0, 1), (dc 2 22, 0, NC), (dc 2 23, 0, NC), (dc 2 24, 0, NC), (dc 2 25, 0, NC), (bar 2, 0, 1), (bar 2, 0, 1)] := rfl
theorem credOf_3 : credOf dueL 3 = [(bar 3, 0, 1), (dc 3 22, 0, NC), (dc 3 23, 0, NC), (dc 3 24, 0, NC), (dc 3 25, 0, NC), (bar 3, 0, 1), (bar 3, 0, 1), (bar 3, 0, 1)] := rfl

theorem creds_intro (c : Dev nD) : (Pipeline.launchCred O₀ c : sProp 𝕄) ⊢ creds c := by
  rw [show (Pipeline.launchCred O₀ c : sProp 𝕄) = bigSepL (credOf dueL c) fun x => cred x.tally from (TalkSites.launchCred_tallyL dueL due_tc c).trans (TalkSites.cred_tallyL _)]
  unfold creds credL
  match c with
  | 0 =>
    rw [credOf_0]; simp only [bigSepL_two, bigSepL_singleton]
    iintro ⟨H1, H2, H8, H9, H3, H4⟩
    isplitl [H1 H2 H3 H4]
    · iapply (bar_cred (F := F) (bar 0)); isplitl [H1]; · iexact H1
      isplitl [H2]; · iexact H2
      isplitl [H3] <;> iassumption
    isplitl [H8] <;> iassumption
  | 1 =>
    rw [credOf_1]; simp only [bigSepL_two, bigSepL_singleton]
    iintro ⟨H1, G1, G2, G3, G4, H2, H3, H4⟩
    isplitl [H1 H2 H3 H4]
    · iapply (bar_cred (F := F) (bar 1)); isplitl [H1]; · iexact H1
      isplitl [H2]; · iexact H2
      isplitl [H3] <;> iassumption
    isplitl [G1]; · iexact G1
    isplitl [G2]; · iexact G2
    isplitl [G3] <;> iassumption
  | 2 =>
    rw [credOf_2]; simp only [bigSepL_two, bigSepL_singleton]
    iintro ⟨H1, H2, G1, G2, G3, G4, H3, H4⟩
    isplitl [H1 H2 H3 H4]
    · iapply (bar_cred (F := F) (bar 2)); isplitl [H1]; · iexact H1
      isplitl [H2]; · iexact H2
      isplitl [H3] <;> iassumption
    isplitl [G1]; · iexact G1
    isplitl [G2]; · iexact G2
    isplitl [G3] <;> iassumption
  | 3 =>
    rw [credOf_3]; simp only [bigSepL_two, bigSepL_singleton]
    iintro ⟨H1, G1, G2, G3, G4, H2, H3, H4⟩
    isplitl [H1 H2 H3 H4]
    · iapply (bar_cred (F := F) (bar 3)); isplitl [H1]; · iexact H1
      isplitl [H2]; · iexact H2
      isplitl [H3] <;> iassumption
    isplitl [G1]; · iexact G1
    isplitl [G2]; · iexact G2
    isplitl [G3] <;> iassumption

end Cert.KernelIdeal.Run

end

end
-- ==== Proof.KernelIdeal.Send.lean ====
/-
# A copy to another device under the protocol, and the sums of what a device owes
-/
module

public import proofs.«01_k».proof.Proof.KernelIdeal.Common

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Tactic

variable {F : FTy → Type} [FloatOps F] [Named F]

local notation "𝕄" => MT nD τ sig ℕ (Elt F) ℕ UU ℕ

variable (m : (ℓ : Loc nD τ sig) → Buf (Elt F) ℓ) (ρ : Dev nD → PrngReg)

/-- What was written through a view from the same view of `f` is `f` on its elements. -/
theorem landed {s : Shape} {e : EltTy} (M : Memref sig .tc .vmem s e) (c : Dev nD) (fd f : M.view.ty.Contents (Elt F)) :
    (M.view.loc (c : Thread nD τ) ↦[M.view.set]{fullShare} M.view.write (Elt F) fd (M.view.read (Elt F) f) Finset.univ)
      ⊢ (M.view.loc (c : Thread nD τ) ↦[M.view.set]{fullShare} f : sProp 𝕄) :=
  Entails.of_eq (pointsTo_congr fun i hi => by rw [View.write_read_eq_piecewise]; exact Finset.piecewise_eq_of_mem _ _ _ hi)

/-- Device `c` copies a buffer (or a chunk) at `f` into the same of device `d`: it lends its share until its own semaphore
    `nS` is credited, and pays what it owes on `d`'s semaphore `nR`. -/
theorem wp_copy_to (K : GSem nD τ sig → ℕ) (c d n : Dev nD) (hn : n = d) {s : Shape} {e : EltTy} (M : Memref sig .tc .vmem s e) (nS nR : DmaSem sig)
    (hS : live c nS = true ∧ 6 ≤ nS.val) (hR : live d nR = true ∧ 6 ≤ nR.val) (N : ℕ) (hN : M.view.dmaCredit = N)
    (hkS : (Rd m).amount (dc c nS) 0 0 = N) (hkR : (Rd m).amount (dc d nR) 0 0 = N)
    (q : PosShare TreeShare) (f fd : M.view.ty.Contents (Elt F))
    (hpS : (M.view.loc (c : Thread nD τ) ↦[M.view.set]{q} f : sProp 𝕄) = (Rd m).payload (dc c nS) 0 0)
    (hpR : (M.view.loc (d : Thread nD τ) ↦[M.view.set]{fullShare} f : sProp 𝕄) = (Rd m).payload (dc d nR) 0 0)
    (O₁ O : CellTallies nD τ sig ℕ) (hO : O₁ = O + (Pay.tally (dc d nR, 0, N) : CellTallies nD τ sig ℕ)) (W : Waits sig ℕ)
    {hsc : (M : Memref sig (Dev.tc n : Thread nD τ).2.kind .vmem s e).view.ref.isScScratch = false}
    {hsrc : M.view.WordExact} {hdst : M.view.WordExact}
    {hsem : DmaTarget.Typed .vmem (.dma nR) (.remote (Dev.tc n : Thread nD τ) M (.dma nS) hsc)}
    {α : Type} {Q : α → sProp 𝕄} {k : PUnit → Prog (TpuEff nD τ sig (Elt F) Λ₀ .tc) α} :
    iprop(records m K ∗ (M.view.loc (c : Thread nD τ) ↦[M.view.set]{q} f) ∗ (M.view.loc (d : Thread nD τ) ↦[M.view.set]{fullShare} fd)
        ∗ owes (c : Thread nD τ) O₁ W ∗ dutyTok ER (dc c nS) 0 0 ∗ dutyTok ER (dc d nR) 0 0)
      ⊢ iprop(((cred (tallyAt (dc c nS) 0 N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M (.dma nS) hsc) (.dma nR) hsrc hdst hsem) k) Q) := by
  subst hn
  have e1 : (M.view.loc (c : Thread nD τ) ↦[M.view.set]{q} f) ⊢ (Rd m).payload (dc c nS) 0 0 := Entails.of_eq hpS
  have e2 : (M.view.loc (n : Thread nD τ) ↦[M.view.set]{fullShare} M.view.write (Elt F) fd (M.view.read (Elt F) f) Finset.univ) ⊢ (Rd m).payload (dc n nR) 0 0 :=
    (landed M n fd f).trans (Entails.of_eq hpR)
  have R := Rounds.wp_send_pointsTo (Γ := .empty) (Es := Set.univ) (defs := defs₀ (F := F)) 𝒱₀ ER (Rd m) (c : Thread nD τ) none (src := M) (c' := (n : Thread nD τ)) (dst := M) (sS := .dma nS) (sem := .dma nR) (hsc := hsc) (hsrc := hsrc) (hdst := hdst)
    (hsem := hsem) (k := k) (Q := Q) (q := q) (κ₁ := K (dc c nS)) (κ₂ := K (dc n nR))
    (r₁ := 0) (r₂ := 0) (d₁ := 0) (d₂ := 0) (fd := fd) (fs := f) (mem_dma m c nS hS.1) (mem_dma m n nR hR.1)
    0 0 N hN hkS hkR O hO (W := W) e1 e2
  iintro ⟨#HR, Hs, Hd, Ho, Ht, Ht'⟩
  ihave #I1 := (inv_of m K (dc c nS) (dc_mem c nS hS.2)) $$ HR
  ihave #I2 := (inv_of m K (dc n nR) (dc_mem n nR hR.2)) $$ HR
  ihave #R1 := (reached_of m K (dc c nS) (dc_mem c nS hS.2)) $$ HR
  ihave #R2 := (reached_of m K (dc n nR) (dc_mem n nR hR.2)) $$ HR
  iapply R
  isplitr; · iexact I1
  isplitr; · iexact I2
  isplitl [Hs]; · iexact Hs
  isplitl [Hd]; · iexact Hd
  isplitl [Ho]; · iexact Ho
  isplitl [Ht]; · iexact Ht
  isplitr; · iexact R1
  isplitl [Ht']; · iexact Ht'
  iexact R2

/-! What is left of a sum of tallies without its first. -/
section
variable {A : Type} [AddCommMonoid A] (a b c d e f g h z : A)
theorem rest1 : a + z = z + a := by ac_rfl
theorem rest2 : a + b + z = b + z + a := by ac_rfl
theorem rest3 : a + b + c + z = b + c + z + a := by ac_rfl
theorem rest4 : a + b + c + d + z = b + c + d + z + a := by ac_rfl
theorem rest5 : a + b + c + d + e + z = b + c + d + e + z + a := by ac_rfl
theorem rest6 : a + b + c + d + e + f + z = b + c + d + e + f + z + a := by ac_rfl
theorem rest7 : a + b + c + d + e + f + g + z = b + c + d + e + f + g + z + a := by ac_rfl
theorem rest8 : a + b + c + d + e + f + g + h + z = b + c + d + e + f + g + h + z + a := by ac_rfl
end

end Cert.KernelIdeal.Run

end

end
-- ==== Proof.KernelIdeal.Chunk.lean ====
/-
# A chunk of the attention that device 0 has stored: four heads, each a column block of its own
-/
module

public import proofs.«01_k».proof.Proof.KernelIdeal.Out
public import Idealize.ShloMosaic.Lib.Pipeline.Value

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig ℕ (Elt F) ℕ UU ℕ

variable (m : (ℓ : Loc nD τ sig) → Buf (Elt F) ℓ)

/-- Head `j` of chunk `o`: 64 columns. -/
theorem piece_inb (o j : Fin 4) : ∀ a, (![o.val, 0, 64 * j.val] : Fin 3 → ℕ) a + S1x512x64.size a ≤ S4x512x256.size a := by
  revert o j; decide
abbrev piece (o j : Fin 4) : Rect S4x512x256 := Rect.unit (s := S4x512x256) ![o.val, 0, 64 * j.val] S1x512x64.size (piece_inb o j)

/-- What is stored there. -/
def pieceV (o j : Fin 4) : S1x512x64.Idx → Elt F .f32 :=
  shapeCast S1x512x64 (headV m ⟨o.val / 2, by omega⟩ ⟨4 * (o.val % 2) + j.val, by omega⟩) shapeCasts_S512x64_S1x512x64

/-- An index of a chunk within its head. -/
def inPiece (i : S4x512x256.Idx) : S1x512x64.Idx := fun a => match a with
  | ⟨0, _⟩ => (0 : Fin 1) | ⟨1, _⟩ => (⟨(i 1).val, (i 1).isLt⟩ : Fin 512) | ⟨2, _⟩ => (⟨(i 2).val % 64, Nat.mod_lt _ (by decide)⟩ : Fin 64)

theorem pieceV_at (o j : Fin 4) (i : S4x512x256.Idx) (hi : (i 0).val = o.val) (hj : (i 2).val / 64 = j.val) : pieceV m o j (inPiece i) = ctxV m i := by
  obtain ⟨o, ho⟩ := o
  obtain ⟨j, hjl⟩ := j
  obtain rfl : (i 0).val = o := hi
  obtain rfl : (i 2).val / 64 = j := hj
  unfold pieceV ctxV
  refine (shapeCast_addUnit_apply _ _ _ _).trans (congrArg _ (funext fun a => ?_))
  match a with
  | ⟨0, _⟩ => rfl
  | ⟨1, _⟩ => rfl

theorem piece_coords (o j : Fin 4) (i : S4x512x256.Idx) (hi : (i 0).val = o.val) (hj : (i 2).val / 64 = j.val) :
    ∀ a, (i a).val = (piece o j).off a + (piece o j).stride a * (inPiece i a).val := fun a => by
  match a with
  | ⟨0, _⟩ => show (i 0).val = o.val + 1 * 0; omega
  | ⟨1, _⟩ => show (i 1).val = 0 + 1 * (i 1).val; omega
  | ⟨2, _⟩ => show (i 2).val = 64 * j.val + 1 * ((i 2).val % 64); omega

/-- After the four stores an index of the chunk reads the attention. -/
theorem read_pieces (o : Fin 4) (f : (cc0_scratch0 : Ref sig .tc).ty.Contents (Elt F)) (i : S4x512x256.Idx) (hi : (i 0).val = o.val) :
    ctxM.view.read (Elt F) (ctxM.view.writes (Elt F) f [⟨piece o 3, pieceV m o 3⟩, ⟨piece o 2, pieceV m o 2⟩, ⟨piece o 1, pieceV m o 1⟩, ⟨piece o 0, pieceV m o 0⟩]) i = ctxV m i := by
  have h := (i 2).isLt
  change _ < 256 at h
  have hit : ∀ (j : Fin 4) L, (i 2).val / 64 = j.val → ctxM.view.read (Elt F) (ctxM.view.writes (Elt F) f (⟨piece o j, pieceV m o j⟩ :: L)) i = ctxV m i := fun j L hj =>
    (View.read_writes_cons_hit_of_coords _ _ (piece o j) (pieceV m o j) _ (inPiece i) i (piece_coords o j i hi hj)).trans (pieceV_at m o j i hi hj)
  have miss : ∀ (j : Fin 4) L, (i 2).val / 64 < j.val → ctxM.view.read (Elt F) (ctxM.view.writes (Elt F) f (⟨piece o j, pieceV m o j⟩ :: L)) i = ctxM.view.read (Elt F) (ctxM.view.writes (Elt F) f L) i := fun j L hj =>
    View.read_writes_cons_miss_of_axis _ _ ⟨piece o j, pieceV m o j⟩ _ i 2 (64 * j.val) 64 rfl rfl rfl (Or.inl (by omega))
  by_cases h3 : (i 2).val / 64 = 3
  · exact hit 3 _ h3
  rw [miss 3 _ (by show _ < 3; omega)]
  by_cases h2 : (i 2).val / 64 = 2
  · exact hit 2 _ h2
  rw [miss 2 _ (by show _ < 2; omega)]
  by_cases h1 : (i 2).val / 64 = 1
  · exact hit 1 _ h1
  rw [miss 1 _ (by show _ < 1; omega)]
  exact hit 0 _ (by show _ = 0; omega)

/-- One more store of a list of them. -/
theorem write_eq (r : Rect S4x512x256) (f : (cc0_scratch0 : Ref sig .tc).ty.Contents (Elt F)) (w : r.shape.Idx → Elt F .f32) (L : List (View.Piece (Elt F) S4x512x256 .f32)) :
    (ctxM.access r).write (Elt F) (ctxM.view.writes (Elt F) f L) w Finset.univ = ctxM.view.writes (Elt F) f (⟨r, w⟩ :: L) := rfl
theorem writes_none (f : (cc0_scratch0 : Ref sig .tc).ty.Contents (Elt F)) : ctxM.view.writes (Elt F) f [] = f := rfl
theorem read_ctx (f : (cc0_scratch0 : Ref sig .tc).ty.Contents (Elt F)) : ctxM.view.read (Elt F) f = f := rfl

/-- The chunk after its four stores. -/
abbrev stored (o : Fin 4) (f : (cc0_scratch0 : Ref sig .tc).ty.Contents (Elt F)) : (cc0_scratch0 : Ref sig .tc).ty.Contents (Elt F) :=
  (ctxM.access (piece o 3)).write (Elt F) ((ctxM.access (piece o 2)).write (Elt F) ((ctxM.access (piece o 1)).write (Elt F)
    ((ctxM.access (piece o 0)).write (Elt F) f (pieceV m o 0) Finset.univ) (pieceV m o 1) Finset.univ) (pieceV m o 2) Finset.univ) (pieceV m o 3) Finset.univ

theorem stored_at (o : Fin 4) (f : (cc0_scratch0 : Ref sig .tc).ty.Contents (Elt F)) (i : S4x512x256.Idx) (hi : (i 0).val = o.val) : stored m o f i = ctxV m i := by
  have h := read_pieces m o f i hi
  rw [← write_eq, ← write_eq, ← write_eq, ← write_eq, writes_none, read_ctx] at h
  exact h

theorem chunk0_stored (f : Buf (Elt F) (((0 : Dev nD) : Thread nD τ).loc cc0_scratch0)) :
    (cM0.view.loc ((0 : Dev nD) : Thread nD τ) ↦[cM0.view.set]{fullShare} stored m 0 f) ⊢ (cM0.view.loc ((0 : Dev nD) : Thread nD τ) ↦[cM0.view.set]{fullShare} ctxV m : sProp 𝕄) :=
  Entails.of_eq (pointsTo_congr fun i h => stored_at m 0 f i ((mem_c0 i).1 h))
theorem chunk1_stored (f : Buf (Elt F) (((0 : Dev nD) : Thread nD τ).loc cc0_scratch0)) :
    (cM1.view.loc ((0 : Dev nD) : Thread nD τ) ↦[cM1.view.set]{fullShare} stored m 1 f) ⊢ (cM1.view.loc ((0 : Dev nD) : Thread nD τ) ↦[cM1.view.set]{fullShare} ctxV m : sProp 𝕄) :=
  Entails.of_eq (pointsTo_congr fun i h => stored_at m 1 f i ((mem_c1 i).1 h))
theorem chunk2_stored (f : Buf (Elt F) (((0 : Dev nD) : Thread nD τ).loc cc0_scratch0)) :
    (cM2.view.loc ((0 : Dev nD) : Thread nD τ) ↦[cM2.view.set]{fullShare} stored m 2 f) ⊢ (cM2.view.loc ((0 : Dev nD) : Thread nD τ) ↦[cM2.view.set]{fullShare} ctxV m : sProp 𝕄) :=
  Entails.of_eq (pointsTo_congr fun i h => stored_at m 2 f i ((mem_c2 i).1 h))
theorem chunk3_stored (f : Buf (Elt F) (((0 : Dev nD) : Thread nD τ).loc cc0_scratch0)) :
    (cM3.view.loc ((0 : Dev nD) : Thread nD τ) ↦[cM3.view.set]{fullShare} stored m 3 f) ⊢ (cM3.view.loc ((0 : Dev nD) : Thread nD τ) ↦[cM3.view.set]{fullShare} ctxV m : sProp 𝕄) :=
  Entails.of_eq (pointsTo_congr fun i h => stored_at m 3 f i ((mem_c3 i).1 h))

end Cert.KernelIdeal.Run

end

end
-- ==== Proof.KernelIdeal.Body0.lean ====
/-
# Device 0's body: it receives device 1's 128 keys and values, computes each chunk of the attention, sends it to devices 1
and 3 and multiplies it by its output weights
-/
module

public import proofs.«01_k».proof.Proof.KernelIdeal.Send
public import proofs.«01_k».proof.Proof.KernelIdeal.Chunk

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Pipeline (Dat Cfg Window BodyObligation cellOf)
open Idealize.ShloMosaic.Tactic

variable {F : FTy → Type} [FloatOps F] [Named F]

local notation "𝕄" => MT nD τ sig ℕ (Elt F) ℕ UU ℕ

variable (m : (ℓ : Loc nD τ sig) → Buf (Elt F) ℓ) (ρ : Dev nD → PrngReg)

/-- Device 0's body: from its share of the protocol and the staged operands, its result. -/
theorem body0 (K : GSem nD τ sig → ℕ) (W : Waits sig ℕ) (fo : Buf (Elt F) (((0 : Dev nD) : Thread nD τ).loc cc0_stg5_0)) :
    iprop(records m K ∗ start 0 ∗ owes ((0 : Dev nD) : Thread nD τ) (O₀ 0) W ∗ stagings m 0 fo)
      ⊢ wp frame (wpE (defs₀ (F := F)) 𝒱₀ ((0 : Dev nD) : Thread nD τ) none) Set.univ body (fun _ => iprop(finish 0 ∗ stagings m 0 (outV m 0) ∗ ∃ W, owes ((0 : Dev nD) : Thread nD τ) 0 W : sProp 𝕄)) := by
  have h1 : ¬ k0_cond1 (0 : Dev nD) = 1#1 := by decide
  have h2 : k0_cond2 (0 : Dev nD) = 1#1 := by decide
  have h3 : ¬ Scalar.cmpi .ne (Scalar.extui (Scalar.cmpi .eq (Scalar.remsi (Scalar.divsi (Dev.word (0 : Dev nD)) 1#32) 4#32) 3#32)) 0#32 = 1#1 := by decide
  have h4 : ¬ Scalar.cmpi .ne (Scalar.extui (Scalar.cmpi .eq (Scalar.remsi (Scalar.divsi (Dev.word (0 : Dev nD)) 1#32) 4#32) 2#32)) 0#32 = 1#1 := by decide
  have d11 := to11 (k0_dev11_lt 0 h2)
  have d12 := to12 (k0_dev12_lt 0 h2)
  have d13 := to13 (k0_dev13_lt 0 h2)
  have d14 := to14 (k0_dev14_lt 0 h2)
  have d15 := to15 (k0_dev15_lt 0 h2)
  have d16 := to16 (k0_dev16_lt 0 h2)
  have d17 := to17 (k0_dev17_lt 0 h2)
  have d18 := to18 (k0_dev18_lt 0 h2)
  have mwb := mayWait (F := F) 0 (.reg barS) [(dc 1 22, 0, NC), (dc 3 22, 0, NC), (dc 1 23, 0, NC), (dc 3 23, 0, NC), (dc 1 24, 0, NC), (dc 3 24, 0, NC), (dc 1 25, 0, NC), (dc 3 25, 0, NC)] (by decide)
  have mw8 := mayWait (F := F) 0 (.dma 8) [(dc 1 22, 0, NC), (dc 3 22, 0, NC), (dc 1 23, 0, NC), (dc 3 23, 0, NC), (dc 1 24, 0, NC), (dc 3 24, 0, NC), (dc 1 25, 0, NC), (dc 3 25, 0, NC)] (by decide)
  have mw9 := mayWait (F := F) 0 (.dma 9) [(dc 1 22, 0, NC), (dc 3 22, 0, NC), (dc 1 23, 0, NC), (dc 3 23, 0, NC), (dc 1 24, 0, NC), (dc 3 24, 0, NC), (dc 1 25, 0, NC), (dc 3 25, 0, NC)] (by decide)
  simp only [tallyL, ← add_assoc] at mwb mw8 mw9
  unfold start finish posns payToks creds liveL payL credL O₀ dueL
  simp only [tallyL, bigSepL_two, bigSepL_singleton]
  iintro ⟨#HR, ⟨⟨Hab, ⟨Ha8, Ha9, Ha10, Ha11, Ha12, Ha13, Ha14, Ha15, Ha16, Ha17⟩, Hdead⟩, ⟨Ht0, Ht1, Ht2, Ht3, Ht10, Ht11, Ht12, Ht13, Ht14, Ht15, Ht16, Ht17, Htp22, Htp23, Htp24, Htp25, Htq22, Htq23, Htq24, Htq25⟩, ⟨Hcb, Hc8, Hc9⟩, #Hlev, Hch, Hkv⟩, Ho, Hst⟩
  ihave #HI0 := (inv_of m K (bar 0) (bar_mem 0)) $$ HR
  ihave #Hr0 := (reached_of m K (bar 0) (bar_mem 0)) $$ HR
  ihave #HI1 := (inv_of m K (bar 1) (bar_mem 1)) $$ HR
  ihave #Hr1 := (reached_of m K (bar 1) (bar_mem 1)) $$ HR
  ihave #HI2 := (inv_of m K (bar 2) (bar_mem 2)) $$ HR
  ihave #Hr2 := (reached_of m K (bar 2) (bar_mem 2)) $$ HR
  ihave #HI3 := (inv_of m K (bar 3) (bar_mem 3)) $$ HR
  ihave #Hr3 := (reached_of m K (bar 3) (bar_mem 3)) $$ HR
  ihave #HI0_8 := (inv_of m K (dc 0 8) (dc_mem 0 8 (by decide))) $$ HR
  ihave #Hr0_8 := (reached_of m K (dc 0 8) (dc_mem 0 8 (by decide))) $$ HR
  ihave #HI0_9 := (inv_of m K (dc 0 9) (dc_mem 0 9 (by decide))) $$ HR
  ihave #Hr0_9 := (reached_of m K (dc 0 9) (dc_mem 0 9 (by decide))) $$ HR
  ihave #HI0_10 := (inv_of m K (dc 0 10) (dc_mem 0 10 (by decide))) $$ HR
  ihave #Hr0_10 := (reached_of m K (dc 0 10) (dc_mem 0 10 (by decide))) $$ HR
  ihave #HI0_11 := (inv_of m K (dc 0 11) (dc_mem 0 11 (by decide))) $$ HR
  ihave #Hr0_11 := (reached_of m K (dc 0 11) (dc_mem 0 11 (by decide))) $$ HR
  ihave #HI0_12 := (inv_of m K (dc 0 12) (dc_mem 0 12 (by decide))) $$ HR
  ihave #Hr0_12 := (reached_of m K (dc 0 12) (dc_mem 0 12 (by decide))) $$ HR
  ihave #HI0_13 := (inv_of m K (dc 0 13) (dc_mem 0 13 (by decide))) $$ HR
  ihave #Hr0_13 := (reached_of m K (dc 0 13) (dc_mem 0 13 (by decide))) $$ HR
  ihave #HI0_14 := (inv_of m K (dc 0 14) (dc_mem 0 14 (by decide))) $$ HR
  ihave #Hr0_14 := (reached_of m K (dc 0 14) (dc_mem 0 14 (by decide))) $$ HR
  ihave #HI0_15 := (inv_of m K (dc 0 15) (dc_mem 0 15 (by decide))) $$ HR
  ihave #Hr0_15 := (reached_of m K (dc 0 15) (dc_mem 0 15 (by decide))) $$ HR
  ihave #HI0_16 := (inv_of m K (dc 0 16) (dc_mem 0 16 (by decide))) $$ HR
  ihave #Hr0_16 := (reached_of m K (dc 0 16) (dc_mem 0 16 (by decide))) $$ HR
  ihave #HI0_17 := (inv_of m K (dc 0 17) (dc_mem 0 17 (by decide))) $$ HR
  ihave #Hr0_17 := (reached_of m K (dc 0 17) (dc_mem 0 17 (by decide))) $$ HR
  unfold body
  simp only [cc0_body_eq_skeleton]
  unfold cc0_body_skel
  simp only [k0_part35_eq_skeleton]
  unfold k0_part35_skel
  simp only [semSignalWord, semWaitWord, Prog.lift, Prog.bind_op, Prog.bind_ret, Prog.pure_eq_ret, wp_deviceId]
  simp only [dif_neg h1, dif_pos h2, dif_neg h3, sig1, sig2, sig3, sig4, Prog.bind_op, Prog.bind_ret]
  unfold stagings chunksAny anyAt
  icases Hst with ⟨Hx, Hwq, Hk, Hv, Hwo, Hout⟩
  icases Hch with ⟨⟨%f0, C0⟩, ⟨%f1, C1⟩, ⟨%f2, C2⟩, ⟨%f3, C3⟩⟩
  sl_exec
  ihave Hab_pay := barPays_0 $$ Hab_pay1
  unfold chunksAny anyAt
  icases Hab_pay with ⟨⟨⟨%g0, G0⟩, ⟨%g1, G1⟩, ⟨%g2, G2⟩, ⟨%g3, G3⟩⟩, ⟨%p0, P0⟩, ⟨%p1, P1⟩, ⟨%p2, P2⟩, ⟨%p3, P3⟩⟩
  ihave C0 := (chunk0_stored m f0) $$ [C0]
  · iexact C0
  ihave Hs := (half (cM0.view.loc ((0 : Dev nD) : Thread nD τ)) cM0.view.set fullShare (ctxV m)).1 $$ [C0]
  · iexact C0
  icases Hs with ⟨Ha, Hs⟩
  ihave Hs := (half (cM0.view.loc ((0 : Dev nD) : Thread nD τ)) cM0.view.set fullShare.right (ctxV m)).1 $$ [Hs]
  · iexact Hs
  icases Hs with ⟨Hb, C0⟩
  iapply (wp_copy_to m K 0 1 _ d11 cM0 10 22 (by decide) (by decide) NC rfl rfl rfl fullShare.left (ctxV m) g0 rfl rfl _ _ (rest8 _ _ _ _ _ _ _ _ _) _) $$ [Ha G0 Ho Ht10 Htp22]
  · isplitr; · iexact HR
    isplitl [Ha]; · iexact Ha
    isplitl [G0]; · iexact G0
    isplitl [Ho]; · iexact Ho
    isplitl [Ht10]; · iexact Ht10
    iexact Htp22
  iintro ⟨Hc10, Ho⟩
  sl_exec
  iapply (wp_copy_to m K 0 3 _ d12 cM0 11 22 (by decide) (by decide) NC rfl rfl rfl fullShare.right.left (ctxV m) p0 rfl rfl _ _ (rest7 _ _ _ _ _ _ _ _) _) $$ [Hb P0 Ho Ht11 Htq22]
  · isplitr; · iexact HR
    isplitl [Hb]; · iexact Hb
    isplitl [P0]; · iexact P0
    isplitl [Ho]; · iexact Ho
    isplitl [Ht11]; · iexact Ht11
    iexact Htq22
  iintro ⟨Hc11, Ho⟩
  sl_exec
  ihave C1 := (chunk1_stored m f1) $$ [C1]
  · iexact C1
  ihave Hs := (half (cM1.view.loc ((0 : Dev nD) : Thread nD τ)) cM1.view.set fullShare (ctxV m)).1 $$ [C1]
  · iexact C1
  icases Hs with ⟨Ha, Hs⟩
  ihave Hs := (half (cM1.view.loc ((0 : Dev nD) : Thread nD τ)) cM1.view.set fullShare.right (ctxV m)).1 $$ [Hs]
  · iexact Hs
  icases Hs with ⟨Hb, C1⟩
  iapply (wp_copy_to m K 0 1 _ d13 cM1 12 23 (by decide) (by decide) NC rfl rfl rfl fullShare.left (ctxV m) g1 rfl rfl _ _ (rest6 _ _ _ _ _ _ _) _) $$ [Ha G1 Ho Ht12 Htp23]
  · isplitr; · iexact HR
    isplitl [Ha]; · iexact Ha
    isplitl [G1]; · iexact G1
    isplitl [Ho]; · iexact Ho
    isplitl [Ht12]; · iexact Ht12
    iexact Htp23
  iintro ⟨Hc12, Ho⟩
  sl_exec
  iapply (wp_copy_to m K 0 3 _ d14 cM1 13 23 (by decide) (by decide) NC rfl rfl rfl fullShare.right.left (ctxV m) p1 rfl rfl _ _ (rest5 _ _ _ _ _ _) _) $$ [Hb P1 Ho Ht13 Htq23]
  · isplitr; · iexact HR
    isplitl [Hb]; · iexact Hb
    isplitl [P1]; · iexact P1
    isplitl [Ho]; · iexact Ho
    isplitl [Ht13]; · iexact Ht13
    iexact Htq23
  iintro ⟨Hc13, Ho⟩
  sl_exec
  ihave C2 := (chunk2_stored m f2) $$ [C2]
  · iexact C2
  ihave Hs := (half (cM2.view.loc ((0 : Dev nD) : Thread nD τ)) cM2.view.set fullShare (ctxV m)).1 $$ [C2]
  · iexact C2
  icases Hs with ⟨Ha, Hs⟩
  ihave Hs := (half (cM2.view.loc ((0 : Dev nD) : Thread nD τ)) cM2.view.set fullShare.right (ctxV m)).1 $$ [Hs]
  · iexact Hs
  icases Hs with ⟨Hb, C2⟩
  iapply (wp_copy_to m K 0 1 _ d15 cM2 14 24 (by decide) (by decide) NC rfl rfl rfl fullShare.left (ctxV m) g2 rfl rfl _ _ (rest4 _ _ _ _ _) _) $$ [Ha G2 Ho Ht14 Htp24]
  · isplitr; · iexact HR
    isplitl [Ha]; · iexact Ha
    isplitl [G2]; · iexact G2
    isplitl [Ho]; · iexact Ho
    isplitl [Ht14]; · iexact Ht14
    iexact Htp24
  iintro ⟨Hc14, Ho⟩
  sl_exec
  iapply (wp_copy_to m K 0 3 _ d16 cM2 15 24 (by decide) (by decide) NC rfl rfl rfl fullShare.right.left (ctxV m) p2 rfl rfl _ _ (rest3 _ _ _ _) _) $$ [Hb P2 Ho Ht15 Htq24]
  · isplitr; · iexact HR
    isplitl [Hb]; · iexact Hb
    isplitl [P2]; · iexact P2
    isplitl [Ho]; · iexact Ho
    isplitl [Ht15]; · iexact Ht15
    iexact Htq24
  iintro ⟨Hc15, Ho⟩
  sl_exec
  ihave C3 := (chunk3_stored m f3) $$ [C3]
  · iexact C3
  ihave Hs := (half (cM3.view.loc ((0 : Dev nD) : Thread nD τ)) cM3.view.set fullShare (ctxV m)).1 $$ [C3]
  · iexact C3
  icases Hs with ⟨Ha, Hs⟩
  ihave Hs := (half (cM3.view.loc ((0 : Dev nD) : Thread nD τ)) cM3.view.set fullShare.right (ctxV m)).1 $$ [Hs]
  · iexact Hs
  icases Hs with ⟨Hb, C3⟩
  iapply (wp_copy_to m K 0 1 _ d17 cM3 16 25 (by decide) (by decide) NC rfl rfl rfl fullShare.left (ctxV m) g3 rfl rfl _ _ (rest2 _ _ _) _) $$ [Ha G3 Ho Ht16 Htp25]
  · isplitr; · iexact HR
    isplitl [Ha]; · iexact Ha
    isplitl [G3]; · iexact G3
    isplitl [Ho]; · iexact Ho
    isplitl [Ht16]; · iexact Ht16
    iexact Htp25
  iintro ⟨Hc16, Ho⟩
  sl_exec
  iapply (wp_copy_to m K 0 3 _ d18 cM3 17 25 (by decide) (by decide) NC rfl rfl rfl fullShare.right.left (ctxV m) p3 rfl rfl _ _ (rest1 _ _) _) $$ [Hb P3 Ho Ht17 Htq25]
  · isplitr; · iexact HR
    isplitl [Hb]; · iexact Hb
    isplitl [P3]; · iexact P3
    isplitl [Ho]; · iexact Ho
    isplitl [Ht17]; · iexact Ht17
    iexact Htq25
  iintro ⟨Hc17, Ho⟩
  sl_exec
  sl_step
  ihave J0 := (half (cM0.view.loc ((0 : Dev nD) : Thread nD τ)) cM0.view.set fullShare.right (ctxV m)).2 $$ [Ha11_pay1 C0]
  · isplitl [Ha11_pay1]; · iexact Ha11_pay1
    iexact C0
  ihave J0 := (half (cM0.view.loc ((0 : Dev nD) : Thread nD τ)) cM0.view.set fullShare (ctxV m)).2 $$ [Ha10_pay1 J0]
  · isplitl [Ha10_pay1]; · iexact Ha10_pay1
    iexact J0
  ihave J1 := (half (cM1.view.loc ((0 : Dev nD) : Thread nD τ)) cM1.view.set fullShare.right (ctxV m)).2 $$ [Ha13_pay1 C1]
  · isplitl [Ha13_pay1]; · iexact Ha13_pay1
    iexact C1
  ihave J1 := (half (cM1.view.loc ((0 : Dev nD) : Thread nD τ)) cM1.view.set fullShare (ctxV m)).2 $$ [Ha12_pay1 J1]
  · isplitl [Ha12_pay1]; · iexact Ha12_pay1
    iexact J1
  ihave J2 := (half (cM2.view.loc ((0 : Dev nD) : Thread nD τ)) cM2.view.set fullShare.right (ctxV m)).2 $$ [Ha15_pay1 C2]
  · isplitl [Ha15_pay1]; · iexact Ha15_pay1
    iexact C2
  ihave J2 := (half (cM2.view.loc ((0 : Dev nD) : Thread nD τ)) cM2.view.set fullShare (ctxV m)).2 $$ [Ha14_pay1 J2]
  · isplitl [Ha14_pay1]; · iexact Ha14_pay1
    iexact J2
  ihave J3 := (half (cM3.view.loc ((0 : Dev nD) : Thread nD τ)) cM3.view.set fullShare.right (ctxV m)).2 $$ [Ha17_pay1 C3]
  · isplitl [Ha17_pay1]; · iexact Ha17_pay1
    iexact C3
  ihave J3 := (half (cM3.view.loc ((0 : Dev nD) : Thread nD τ)) cM3.view.set fullShare (ctxV m)).2 $$ [Ha16_pay1 J3]
  · isplitl [Ha16_pay1]; · iexact Ha16_pay1
    iexact J3
  isplitl [Hab Ha8 Ha9 Ha10 Ha11 Ha12 Ha13 Ha14 Ha15 Ha16 Ha17 Hdead J0 J1 J2 J3 Ha8_pay1 Ha9_pay1]
  · isplitl [Hab Ha8 Ha9 Ha10 Ha11 Ha12 Ha13 Ha14 Ha15 Ha16 Ha17 Hdead]
    · isplitl [Hab]; · iexact Hab
      isplitl [Ha8 Ha9 Ha10 Ha11 Ha12 Ha13 Ha14 Ha15 Ha16 Ha17]
      · isplitl [Ha8]; · iexact Ha8
        isplitl [Ha9]; · iexact Ha9
        isplitl [Ha10]; · iexact Ha10
        isplitl [Ha11]; · iexact Ha11
        isplitl [Ha12]; · iexact Ha12
        isplitl [Ha13]; · iexact Ha13
        isplitl [Ha14]; · iexact Ha14
        isplitl [Ha15]; · iexact Ha15
        isplitl [Ha16]; · iexact Ha16
        iexact Ha17
      iexact Hdead
    isplitl [J0 J1 J2 J3]
    · isplitl [J0]; · iexists _; iexact J0
      isplitl [J1]; · iexists _; iexact J1
      isplitl [J2]; · iexists _; iexact J2
      iexists _; iexact J3
    unfold kvAny anyAt
    isplitl [Ha8_pay1]; · iexists _; iexact Ha8_pay1
    iexists _; iexact Ha9_pay1
  isplitl [Hx Hwq Hk Hv Hwo Hout]
  · isplitl [Hx]; · iexact Hx
    isplitl [Hwq]; · iexact Hwq
    isplitl [Hk]; · iexact Hk
    isplitl [Hv]; · iexact Hv
    isplitl [Hwo]; · iexact Hwo
    iapply (out_stored m 0 fo)
    iexact Hout
  iexists _; iexact Ho

end Cert.KernelIdeal.Run

end

end
-- ==== Proof.KernelIdeal.Body1.lean ====
/-
# Device 1's body: it sends its first 128 keys and values to device 0, then receives each chunk, forwards it to device 2 and
multiplies it by its output weights
-/
module

public import proofs.«01_k».proof.Proof.KernelIdeal.Send

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Pipeline (Dat Cfg Window BodyObligation cellOf)
open Idealize.ShloMosaic.Tactic

variable {F : FTy → Type} [FloatOps F] [Named F]

local notation "𝕄" => MT nD τ sig ℕ (Elt F) ℕ UU ℕ

variable (m : (ℓ : Loc nD τ sig) → Buf (Elt F) ℓ) (ρ : Dev nD → PrngReg)

/-- Device 1's body: from its share of the protocol and the staged operands, its result. -/
theorem body1 (K : GSem nD τ sig → ℕ) (W : Waits sig ℕ) (fo : Buf (Elt F) (((1 : Dev nD) : Thread nD τ).loc cc0_stg5_0)) :
    iprop(records m K ∗ start 1 ∗ owes ((1 : Dev nD) : Thread nD τ) (O₀ 1) W ∗ stagings m 1 fo)
      ⊢ wp frame (wpE (defs₀ (F := F)) 𝒱₀ ((1 : Dev nD) : Thread nD τ) none) Set.univ body (fun _ => iprop(finish 1 ∗ stagings m 1 (outV m 1) ∗ ∃ W, owes ((1 : Dev nD) : Thread nD τ) 0 W : sProp 𝕄)) := by
  have h1 : k0_cond1 (1 : Dev nD) = 1#1 := by decide
  have h2 : ¬ k0_cond2 (1 : Dev nD) = 1#1 := by decide
  have h3 : ¬ Scalar.cmpi .ne (Scalar.extui (Scalar.cmpi .eq (Scalar.remsi (Scalar.divsi (Dev.word (1 : Dev nD)) 1#32) 4#32) 3#32)) 0#32 = 1#1 := by decide
  have h4 : ¬ Scalar.cmpi .ne (Scalar.extui (Scalar.cmpi .eq (Scalar.remsi (Scalar.divsi (Dev.word (1 : Dev nD)) 1#32) 4#32) 2#32)) 0#32 = 1#1 := by decide
  have d5 := to5 (k0_dev5_lt 1 h1)
  have d6 := to6 (k0_dev6_lt 1 h1)
  have d7 := to7 (k0_dev7_lt 1 h1)
  have d8 := to8 (k0_dev8_lt 1 h1)
  have d9 := to9 (k0_dev9_lt 1 h1)
  have d10 := to10 (k0_dev10_lt 1 h1)
  have mwb := mayWait (F := F) 1 (.reg barS) [(dc 0 8, 0, NK), (dc 0 9, 0, NK), (dc 2 22, 0, NC), (dc 2 23, 0, NC), (dc 2 24, 0, NC), (dc 2 25, 0, NC)] (by decide)
  have mw22 := mayWait (F := F) 1 (.dma 22) [(dc 2 22, 0, NC), (dc 2 23, 0, NC), (dc 2 24, 0, NC), (dc 2 25, 0, NC)] (by decide)
  have mw23 := mayWait (F := F) 1 (.dma 23) [(dc 2 23, 0, NC), (dc 2 24, 0, NC), (dc 2 25, 0, NC)] (by decide)
  have mw24 := mayWait (F := F) 1 (.dma 24) [(dc 2 24, 0, NC), (dc 2 25, 0, NC)] (by decide)
  have mw25 := mayWait (F := F) 1 (.dma 25) [(dc 2 25, 0, NC)] (by decide)
  simp only [tallyL, ← add_assoc] at mwb mw22 mw23 mw24 mw25
  unfold start finish posns payToks creds liveL payL credL O₀ dueL
  simp only [tallyL, bigSepL_two, bigSepL_singleton]
  iintro ⟨#HR, ⟨⟨Hab, ⟨Ha6, Ha7, Ha18, Ha19, Ha20, Ha21, Ha22, Ha23, Ha24, Ha25⟩, Hdead⟩, ⟨Ht0, Ht1, Ht2, Ht3, Ht6, Ht7, Ht8, Ht9, Ht18, Ht19, Ht20, Ht21, Ht22, Ht23, Ht24, Ht25⟩, ⟨Hcb, Hc22, Hc23, Hc24, Hc25⟩, #Hlev, Hch, Hkv⟩, Ho, Hst⟩
  ihave #HI0 := (inv_of m K (bar 0) (bar_mem 0)) $$ HR
  ihave #Hr0 := (reached_of m K (bar 0) (bar_mem 0)) $$ HR
  ihave #HI1 := (inv_of m K (bar 1) (bar_mem 1)) $$ HR
  ihave #Hr1 := (reached_of m K (bar 1) (bar_mem 1)) $$ HR
  ihave #HI2 := (inv_of m K (bar 2) (bar_mem 2)) $$ HR
  ihave #Hr2 := (reached_of m K (bar 2) (bar_mem 2)) $$ HR
  ihave #HI3 := (inv_of m K (bar 3) (bar_mem 3)) $$ HR
  ihave #Hr3 := (reached_of m K (bar 3) (bar_mem 3)) $$ HR
  ihave #HI1_6 := (inv_of m K (dc 1 6) (dc_mem 1 6 (by decide))) $$ HR
  ihave #Hr1_6 := (reached_of m K (dc 1 6) (dc_mem 1 6 (by decide))) $$ HR
  ihave #HI1_7 := (inv_of m K (dc 1 7) (dc_mem 1 7 (by decide))) $$ HR
  ihave #Hr1_7 := (reached_of m K (dc 1 7) (dc_mem 1 7 (by decide))) $$ HR
  ihave #HI1_18 := (inv_of m K (dc 1 18) (dc_mem 1 18 (by decide))) $$ HR
  ihave #Hr1_18 := (reached_of m K (dc 1 18) (dc_mem 1 18 (by decide))) $$ HR
  ihave #HI1_19 := (inv_of m K (dc 1 19) (dc_mem 1 19 (by decide))) $$ HR
  ihave #Hr1_19 := (reached_of m K (dc 1 19) (dc_mem 1 19 (by decide))) $$ HR
  ihave #HI1_20 := (inv_of m K (dc 1 20) (dc_mem 1 20 (by decide))) $$ HR
  ihave #Hr1_20 := (reached_of m K (dc 1 20) (dc_mem 1 20 (by decide))) $$ HR
  ihave #HI1_21 := (inv_of m K (dc 1 21) (dc_mem 1 21 (by decide))) $$ HR
  ihave #Hr1_21 := (reached_of m K (dc 1 21) (dc_mem 1 21 (by decide))) $$ HR
  ihave #HI1_22 := (inv_of m K (dc 1 22) (dc_mem 1 22 (by decide))) $$ HR
  ihave #Hr1_22 := (reached_of m K (dc 1 22) (dc_mem 1 22 (by decide))) $$ HR
  ihave #HI1_23 := (inv_of m K (dc 1 23) (dc_mem 1 23 (by decide))) $$ HR
  ihave #Hr1_23 := (reached_of m K (dc 1 23) (dc_mem 1 23 (by decide))) $$ HR
  ihave #HI1_24 := (inv_of m K (dc 1 24) (dc_mem 1 24 (by decide))) $$ HR
  ihave #Hr1_24 := (reached_of m K (dc 1 24) (dc_mem 1 24 (by decide))) $$ HR
  ihave #HI1_25 := (inv_of m K (dc 1 25) (dc_mem 1 25 (by decide))) $$ HR
  ihave #Hr1_25 := (reached_of m K (dc 1 25) (dc_mem 1 25 (by decide))) $$ HR
  ihave #HI0_8 := (inv_of m K (dc 0 8) (dc_mem 0 8 (by decide))) $$ HR
  ihave #Hr0_8 := (reached_of m K (dc 0 8) (dc_mem 0 8 (by decide))) $$ HR
  ihave #HI0_9 := (inv_of m K (dc 0 9) (dc_mem 0 9 (by decide))) $$ HR
  ihave #Hr0_9 := (reached_of m K (dc 0 9) (dc_mem 0 9 (by decide))) $$ HR
  ihave #HI2_22 := (inv_of m K (dc 2 22) (dc_mem 2 22 (by decide))) $$ HR
  ihave #Hr2_22 := (reached_of m K (dc 2 22) (dc_mem 2 22 (by decide))) $$ HR
  ihave #HI2_23 := (inv_of m K (dc 2 23) (dc_mem 2 23 (by decide))) $$ HR
  ihave #Hr2_23 := (reached_of m K (dc 2 23) (dc_mem 2 23 (by decide))) $$ HR
  ihave #HI2_24 := (inv_of m K (dc 2 24) (dc_mem 2 24 (by decide))) $$ HR
  ihave #Hr2_24 := (reached_of m K (dc 2 24) (dc_mem 2 24 (by decide))) $$ HR
  ihave #HI2_25 := (inv_of m K (dc 2 25) (dc_mem 2 25 (by decide))) $$ HR
  ihave #Hr2_25 := (reached_of m K (dc 2 25) (dc_mem 2 25 (by decide))) $$ HR
  unfold body
  simp only [cc0_body_eq_skeleton]
  unfold cc0_body_skel
  simp only [k0_part35_eq_skeleton]
  unfold k0_part35_skel
  simp only [semSignalWord, semWaitWord, Prog.lift, Prog.bind_op, Prog.bind_ret, Prog.pure_eq_ret, wp_deviceId]
  simp only [dif_pos h1, dif_neg h2, dif_neg h3, sig1, sig2, sig3, sig4, Prog.bind_op, Prog.bind_ret]
  unfold stagings kvAny anyAt
  icases Hst with ⟨Hx, Hwq, Hk, Hv, Hwo, Hout⟩
  icases Hkv with ⟨⟨%fk, Hk1⟩, ⟨%fv, Hv1⟩⟩
  sl_exec
  ihave Hab_pay := barPays_1 $$ Hab_pay1
  unfold kvAny chunksAny anyAt
  icases Hab_pay with ⟨⟨⟨%gk, Gk⟩, ⟨%gv, Gv⟩⟩, ⟨%g0, G0⟩, ⟨%g1, G1⟩, ⟨%g2, G2⟩, ⟨%g3, G3⟩⟩
  ihave Hk1 := (k1_stored m 1 fk) $$ [Hk1]
  · iexact Hk1
  ihave Hv1 := (v1_stored m 1 fv) $$ [Hv1]
  · iexact Hv1
  iapply (wp_copy_to m K 1 0 _ d5 k1M 6 8 (by decide) (by decide) NK rfl rfl rfl fullShare (k1V m) gk rfl rfl _ _ (rest6 _ _ _ _ _ _ _) _) $$ [Hk1 Gk Ho Ht6 Ht8]
  · isplitr; · iexact HR
    isplitl [Hk1]; · iexact Hk1
    isplitl [Gk]; · iexact Gk
    isplitl [Ho]; · iexact Ho
    isplitl [Ht6]; · iexact Ht6
    iexact Ht8
  iintro ⟨Hc6, Ho⟩
  sl_exec
  iapply (wp_copy_to m K 1 0 _ d6 v1M 7 9 (by decide) (by decide) NK rfl rfl rfl fullShare (v1V m) gv rfl rfl _ _ (rest5 _ _ _ _ _ _) _) $$ [Hv1 Gv Ho Ht7 Ht9]
  · isplitr; · iexact HR
    isplitl [Hv1]; · iexact Hv1
    isplitl [Gv]; · iexact Gv
    isplitl [Ho]; · iexact Ho
    isplitl [Ht7]; · iexact Ht7
    iexact Ht9
  iintro ⟨Hc7, Ho⟩
  sl_exec
  ihave Hs := (half (cM0.view.loc ((1 : Dev nD) : Thread nD τ)) cM0.view.set fullShare (ctxV m)).1 $$ [Ha22_pay1]
  · iexact Ha22_pay1
  icases Hs with ⟨Hl, Hr0c⟩
  iapply (wp_copy_to m K 1 2 _ d7 cM0 18 22 (by decide) (by decide) NC rfl rfl rfl fullShare.left (ctxV m) g0 rfl rfl _ _ (rest4 _ _ _ _ _) _) $$ [Hl G0 Ho Ht18 Ht22]
  · isplitr; · iexact HR
    isplitl [Hl]; · iexact Hl
    isplitl [G0]; · iexact G0
    isplitl [Ho]; · iexact Ho
    isplitl [Ht18]; · iexact Ht18
    iexact Ht22
  iintro ⟨Hc18, Ho⟩
  sl_exec
  ihave Hs := (half (cM1.view.loc ((1 : Dev nD) : Thread nD τ)) cM1.view.set fullShare (ctxV m)).1 $$ [Ha23_pay1]
  · iexact Ha23_pay1
  icases Hs with ⟨Hl, Hr1c⟩
  iapply (wp_copy_to m K 1 2 _ d8 cM1 19 23 (by decide) (by decide) NC rfl rfl rfl fullShare.left (ctxV m) g1 rfl rfl _ _ (rest3 _ _ _ _) _) $$ [Hl G1 Ho Ht19 Ht23]
  · isplitr; · iexact HR
    isplitl [Hl]; · iexact Hl
    isplitl [G1]; · iexact G1
    isplitl [Ho]; · iexact Ho
    isplitl [Ht19]; · iexact Ht19
    iexact Ht23
  iintro ⟨Hc19, Ho⟩
  sl_exec
  ihave Hs := (half (cM2.view.loc ((1 : Dev nD) : Thread nD τ)) cM2.view.set fullShare (ctxV m)).1 $$ [Ha24_pay1]
  · iexact Ha24_pay1
  icases Hs with ⟨Hl, Hr2c⟩
  iapply (wp_copy_to m K 1 2 _ d9 cM2 20 24 (by decide) (by decide) NC rfl rfl rfl fullShare.left (ctxV m) g2 rfl rfl _ _ (rest2 _ _ _) _) $$ [Hl G2 Ho Ht20 Ht24]
  · isplitr; · iexact HR
    isplitl [Hl]; · iexact Hl
    isplitl [G2]; · iexact G2
    isplitl [Ho]; · iexact Ho
    isplitl [Ht20]; · iexact Ht20
    iexact Ht24
  iintro ⟨Hc20, Ho⟩
  sl_exec
  ihave Hs := (half (cM3.view.loc ((1 : Dev nD) : Thread nD τ)) cM3.view.set fullShare (ctxV m)).1 $$ [Ha25_pay1]
  · iexact Ha25_pay1
  icases Hs with ⟨Hl, Hr3c⟩
  iapply (wp_copy_to m K 1 2 _ d10 cM3 21 25 (by decide) (by decide) NC rfl rfl rfl fullShare.left (ctxV m) g3 rfl rfl _ _ (rest1 _ _) _) $$ [Hl G3 Ho Ht21 Ht25]
  · isplitr; · iexact HR
    isplitl [Hl]; · iexact Hl
    isplitl [G3]; · iexact G3
    isplitl [Ho]; · iexact Ho
    isplitl [Ht21]; · iexact Ht21
    iexact Ht25
  iintro ⟨Hc21, Ho⟩
  sl_exec
  sl_step
  ihave J0 := (half (cM0.view.loc ((1 : Dev nD) : Thread nD τ)) cM0.view.set fullShare (ctxV m)).2 $$ [Ha18_pay1 Hr0c]
  · isplitl [Ha18_pay1]; · iexact Ha18_pay1
    iexact Hr0c
  ihave J1 := (half (cM1.view.loc ((1 : Dev nD) : Thread nD τ)) cM1.view.set fullShare (ctxV m)).2 $$ [Ha19_pay1 Hr1c]
  · isplitl [Ha19_pay1]; · iexact Ha19_pay1
    iexact Hr1c
  ihave J2 := (half (cM2.view.loc ((1 : Dev nD) : Thread nD τ)) cM2.view.set fullShare (ctxV m)).2 $$ [Ha20_pay1 Hr2c]
  · isplitl [Ha20_pay1]; · iexact Ha20_pay1
    iexact Hr2c
  ihave J3 := (half (cM3.view.loc ((1 : Dev nD) : Thread nD τ)) cM3.view.set fullShare (ctxV m)).2 $$ [Ha21_pay1 Hr3c]
  · isplitl [Ha21_pay1]; · iexact Ha21_pay1
    iexact Hr3c
  isplitl [Hab Ha6 Ha7 Ha18 Ha19 Ha20 Ha21 Ha22 Ha23 Ha24 Ha25 Hdead J0 J1 J2 J3 Ha6_pay1 Ha7_pay1]
  · isplitl [Hab Ha6 Ha7 Ha18 Ha19 Ha20 Ha21 Ha22 Ha23 Ha24 Ha25 Hdead]
    · isplitl [Hab]; · iexact Hab
      isplitl [Ha6 Ha7 Ha18 Ha19 Ha20 Ha21 Ha22 Ha23 Ha24 Ha25]
      · isplitl [Ha6]; · iexact Ha6
        isplitl [Ha7]; · iexact Ha7
        isplitl [Ha18]; · iexact Ha18
        isplitl [Ha19]; · iexact Ha19
        isplitl [Ha20]; · iexact Ha20
        isplitl [Ha21]; · iexact Ha21
        isplitl [Ha22]; · iexact Ha22
        isplitl [Ha23]; · iexact Ha23
        isplitl [Ha24]; · iexact Ha24
        iexact Ha25
      iexact Hdead
    isplitl [J0 J1 J2 J3]
    · isplitl [J0]; · iexists _; iexact J0
      isplitl [J1]; · iexists _; iexact J1
      isplitl [J2]; · iexists _; iexact J2
      iexists _; iexact J3
    isplitl [Ha6_pay1]; · iexists _; iexact Ha6_pay1
    iexists _; iexact Ha7_pay1
  isplitl [Hx Hwq Hk Hv Hwo Hout]
  · isplitl [Hx]; · iexact Hx
    isplitl [Hwq]; · iexact Hwq
    isplitl [Hk]; · iexact Hk
    isplitl [Hv]; · iexact Hv
    isplitl [Hwo]; · iexact Hwo
    iapply (out_stored m 1 fo)
    iexact Hout
  iexists _; iexact Ho

end Cert.KernelIdeal.Run

end

end
-- ==== Proof.KernelIdeal.Body2.lean ====
/-
# Device 2's body: it signals, waits for the four chunks one after another and multiplies each by its output weights
-/
module

public import proofs.«01_k».proof.Proof.KernelIdeal.Common

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Pipeline (Dat Cfg Window BodyObligation cellOf)
open Idealize.ShloMosaic.Tactic

variable {F : FTy → Type} [FloatOps F] [Named F]

local notation "𝕄" => MT nD τ sig ℕ (Elt F) ℕ UU ℕ

variable (m : (ℓ : Loc nD τ sig) → Buf (Elt F) ℓ) (ρ : Dev nD → PrngReg)

/-- Device 2's body: from its share of the protocol and the staged operands, its result. -/
theorem body2 (K : GSem nD τ sig → ℕ) (W : Waits sig ℕ) (fo : Buf (Elt F) (((2 : Dev nD) : Thread nD τ).loc cc0_stg5_0)) :
    iprop(records m K ∗ start 2 ∗ owes ((2 : Dev nD) : Thread nD τ) (O₀ 2) W ∗ stagings m 2 fo)
      ⊢ wp frame (wpE (defs₀ (F := F)) 𝒱₀ ((2 : Dev nD) : Thread nD τ) none) Set.univ body (fun _ => iprop(finish 2 ∗ stagings m 2 (outV m 2) ∗ ∃ W, owes ((2 : Dev nD) : Thread nD τ) 0 W : sProp 𝕄)) := by
  have h1 : ¬ k0_cond1 (2 : Dev nD) = 1#1 := by decide
  have h2 : ¬ k0_cond2 (2 : Dev nD) = 1#1 := by decide
  have h3 : ¬ Scalar.cmpi .ne (Scalar.extui (Scalar.cmpi .eq (Scalar.remsi (Scalar.divsi (Dev.word (2 : Dev nD)) 1#32) 4#32) 3#32)) 0#32 = 1#1 := by decide
  have h4 : Scalar.cmpi .ne (Scalar.extui (Scalar.cmpi .eq (Scalar.remsi (Scalar.divsi (Dev.word (2 : Dev nD)) 1#32) 4#32) 2#32)) 0#32 = 1#1 := by decide
  unfold start finish posns payToks creds liveL payL credL O₀ dueL
  simp only [tallyL, bigSepL_two, bigSepL_singleton]
  iintro ⟨#HR, ⟨⟨Hab, ⟨Ha22, Ha23, Ha24, Ha25⟩, Hdead⟩, ⟨Ht0, Ht1, Ht2, Ht3⟩, ⟨Hcb, Hc22, Hc23, Hc24, Hc25⟩, #Hlev, Hch, Hkv⟩, Ho, Hst⟩
  ihave #HI0 := (inv_of m K (bar 0) (bar_mem 0)) $$ HR
  ihave #Hr0 := (reached_of m K (bar 0) (bar_mem 0)) $$ HR
  ihave #HI1 := (inv_of m K (bar 1) (bar_mem 1)) $$ HR
  ihave #Hr1 := (reached_of m K (bar 1) (bar_mem 1)) $$ HR
  ihave #HI2 := (inv_of m K (bar 2) (bar_mem 2)) $$ HR
  ihave #Hr2 := (reached_of m K (bar 2) (bar_mem 2)) $$ HR
  ihave #HI3 := (inv_of m K (bar 3) (bar_mem 3)) $$ HR
  ihave #Hr3 := (reached_of m K (bar 3) (bar_mem 3)) $$ HR
  ihave #HI22 := (inv_of m K (dc 2 22) (dc_mem 2 22 (by decide))) $$ HR
  ihave #HI23 := (inv_of m K (dc 2 23) (dc_mem 2 23 (by decide))) $$ HR
  ihave #HI24 := (inv_of m K (dc 2 24) (dc_mem 2 24 (by decide))) $$ HR
  ihave #HI25 := (inv_of m K (dc 2 25) (dc_mem 2 25 (by decide))) $$ HR
  unfold body
  simp only [cc0_body_eq_skeleton]
  unfold cc0_body_skel
  simp only [k0_part35_eq_skeleton]
  unfold k0_part35_skel
  simp only [semSignalWord, semWaitWord, Prog.lift, Prog.bind_op, Prog.bind_ret, Prog.pure_eq_ret, wp_deviceId]
  simp only [dif_neg h1, dif_neg h2, dif_neg h3, sig1, sig2, sig3, sig4, Prog.bind_op, Prog.bind_ret]
  unfold stagings
  icases Hst with ⟨Hx, Hwq, Hk, Hv, Hwo, Hout⟩
  sl_exec
  sl_step
  isplitl [Hab Ha22 Ha23 Ha24 Ha25 Hdead Hkv Ha22_pay1 Ha23_pay1 Ha24_pay1 Ha25_pay1]
  · isplitl [Hab Ha22 Ha23 Ha24 Ha25 Hdead]
    · isplitl [Hab]; · iexact Hab
      isplitl [Ha22 Ha23 Ha24 Ha25]
      · isplitl [Ha22]; · iexact Ha22
        isplitl [Ha23]; · iexact Ha23
        isplitl [Ha24]; · iexact Ha24
        iexact Ha25
      iexact Hdead
    isplitl [Ha22_pay1 Ha23_pay1 Ha24_pay1 Ha25_pay1]
    · iapply (chunks_fold 2 (ctxV m) (ctxV m) (ctxV m) (ctxV m))
      isplitl [Ha22_pay1]; · iexact Ha22_pay1
      isplitl [Ha23_pay1]; · iexact Ha23_pay1
      isplitl [Ha24_pay1]; · iexact Ha24_pay1
      iexact Ha25_pay1
    iexact Hkv
  isplitl [Hx Hwq Hk Hv Hwo Hout]
  · isplitl [Hx]; · iexact Hx
    isplitl [Hwq]; · iexact Hwq
    isplitl [Hk]; · iexact Hk
    isplitl [Hv]; · iexact Hv
    isplitl [Hwo]; · iexact Hwo
    iapply (out_stored m 2 fo)
    iexact Hout
  iexists _; iexact Ho

end Cert.KernelIdeal.Run

end

end
-- ==== Proof.KernelIdeal.Body3.lean ====
/-
# Device 3's body: it signals, waits for the four chunks one after another and multiplies each by its output weights
-/
module

public import proofs.«01_k».proof.Proof.KernelIdeal.Common

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL addL Pay credOf)
open Idealize.ShloMosaic.Pipeline (Dat Cfg Window BodyObligation cellOf)
open Idealize.ShloMosaic.Tactic

variable {F : FTy → Type} [FloatOps F] [Named F]

local notation "𝕄" => MT nD τ sig ℕ (Elt F) ℕ UU ℕ

variable (m : (ℓ : Loc nD τ sig) → Buf (Elt F) ℓ) (ρ : Dev nD → PrngReg)

/-- Device 3's body: from its share of the protocol and the staged operands, its result. -/
theorem body3 (K : GSem nD τ sig → ℕ) (W : Waits sig ℕ) (fo : Buf (Elt F) (((3 : Dev nD) : Thread nD τ).loc cc0_stg5_0)) :
    iprop(records m K ∗ start 3 ∗ owes ((3 : Dev nD) : Thread nD τ) (O₀ 3) W ∗ stagings m 3 fo)
      ⊢ wp frame (wpE (defs₀ (F := F)) 𝒱₀ ((3 : Dev nD) : Thread nD τ) none) Set.univ body (fun _ => iprop(finish 3 ∗ stagings m 3 (outV m 3) ∗ ∃ W, owes ((3 : Dev nD) : Thread nD τ) 0 W : sProp 𝕄)) := by
  have h1 : ¬ k0_cond1 (3 : Dev nD) = 1#1 := by decide
  have h2 : ¬ k0_cond2 (3 : Dev nD) = 1#1 := by decide
  have h3 : Scalar.cmpi .ne (Scalar.extui (Scalar.cmpi .eq (Scalar.remsi (Scalar.divsi (Dev.word (3 : Dev nD)) 1#32) 4#32) 3#32)) 0#32 = 1#1 := by decide
  have h4 : ¬ Scalar.cmpi .ne (Scalar.extui (Scalar.cmpi .eq (Scalar.remsi (Scalar.divsi (Dev.word (3 : Dev nD)) 1#32) 4#32) 2#32)) 0#32 = 1#1 := by decide
  unfold start finish posns payToks creds liveL payL credL O₀ dueL
  simp only [tallyL, bigSepL_two, bigSepL_singleton]
  iintro ⟨#HR, ⟨⟨Hab, ⟨Ha22, Ha23, Ha24, Ha25⟩, Hdead⟩, ⟨Ht0, Ht1, Ht2, Ht3⟩, ⟨Hcb, Hc22, Hc23, Hc24, Hc25⟩, #Hlev, Hch, Hkv⟩, Ho, Hst⟩
  ihave #HI0 := (inv_of m K (bar 0) (bar_mem 0)) $$ HR
  ihave #Hr0 := (reached_of m K (bar 0) (bar_mem 0)) $$ HR
  ihave #HI1 := (inv_of m K (bar 1) (bar_mem 1)) $$ HR
  ihave #Hr1 := (reached_of m K (bar 1) (bar_mem 1)) $$ HR
  ihave #HI2 := (inv_of m K (bar 2) (bar_mem 2)) $$ HR
  ihave #Hr2 := (reached_of m K (bar 2) (bar_mem 2)) $$ HR
  ihave #HI3 := (inv_of m K (bar 3) (bar_mem 3)) $$ HR
  ihave #Hr3 := (reached_of m K (bar 3) (bar_mem 3)) $$ HR
  ihave #HI22 := (inv_of m K (dc 3 22) (dc_mem 3 22 (by decide))) $$ HR
  ihave #HI23 := (inv_of m K (dc 3 23) (dc_mem 3 23 (by decide))) $$ HR
  ihave #HI24 := (inv_of m K (dc 3 24) (dc_mem 3 24 (by decide))) $$ HR
  ihave #HI25 := (inv_of m K (dc 3 25) (dc_mem 3 25 (by decide))) $$ HR
  unfold body
  simp only [cc0_body_eq_skeleton]
  unfold cc0_body_skel
  simp only [k0_part35_eq_skeleton]
  unfold k0_part35_skel
  simp only [semSignalWord, semWaitWord, Prog.lift, Prog.bind_op, Prog.bind_ret, Prog.pure_eq_ret, wp_deviceId]
  simp only [dif_neg h1, dif_neg h2, dif_pos h3, sig1, sig2, sig3, sig4, Prog.bind_op, Prog.bind_ret]
  unfold stagings
  icases Hst with ⟨Hx, Hwq, Hk, Hv, Hwo, Hout⟩
  sl_exec
  sl_step
  isplitl [Hab Ha22 Ha23 Ha24 Ha25 Hdead Hkv Ha22_pay1 Ha23_pay1 Ha24_pay1 Ha25_pay1]
  · isplitl [Hab Ha22 Ha23 Ha24 Ha25 Hdead]
    · isplitl [Hab]; · iexact Hab
      isplitl [Ha22 Ha23 Ha24 Ha25]
      · isplitl [Ha22]; · iexact Ha22
        isplitl [Ha23]; · iexact Ha23
        isplitl [Ha24]; · iexact Ha24
        iexact Ha25
      iexact Hdead
    isplitl [Ha22_pay1 Ha23_pay1 Ha24_pay1 Ha25_pay1]
    · iapply (chunks_fold 3 (ctxV m) (ctxV m) (ctxV m) (ctxV m))
      isplitl [Ha22_pay1]; · iexact Ha22_pay1
      isplitl [Ha23_pay1]; · iexact Ha23_pay1
      isplitl [Ha24_pay1]; · iexact Ha24_pay1
      iexact Ha25_pay1
    iexact Hkv
  isplitl [Hx Hwq Hk Hv Hwo Hout]
  · isplitl [Hx]; · iexact Hx
    isplitl [Hwq]; · iexact Hwq
    isplitl [Hk]; · iexact Hk
    isplitl [Hv]; · iexact Hv
    isplitl [Hwo]; · iexact Hwo
    iapply (out_stored m 3 fo)
    iexact Hout
  iexists _; iexact Ho

end Cert.KernelIdeal.Run

end

end
-- ==== Proof.KernelIdeal.Launch.lean ====
/-
# The run: the kernel at its mesh of four devices, from any memory with zero counters
-/
module

public import proofs.«01_k».proof.Proof.KernelIdeal.Deal
public import proofs.«01_k».proof.Proof.KernelIdeal.Body0
public import proofs.«01_k».proof.Proof.KernelIdeal.Body1
public import proofs.«01_k».proof.Proof.KernelIdeal.Body2
public import proofs.«01_k».proof.Proof.KernelIdeal.Body3
public import Idealize.ShloMosaic.Lib.Quiescent
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL Pay credOf)
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

abbrev 𝒱₀ : Variants := Variants.none

/-! ## The body on any device -/

theorem body_any (K : GSem nD τ sig → ℕ) (c : Dev nD) (W : Waits sig ℕ) (fo : Buf (Elt F) ((c : Thread nD τ).loc cc0_stg5_0)) :
    iprop(records m K ∗ start c ∗ owes (c : Thread nD τ) (O₀ c) W ∗ stagings m c fo)
      ⊢ wp frame (wpE (defs₀ (F := F)) 𝒱₀ (c : Thread nD τ) none) Set.univ body (fun _ => iprop(finish c ∗ stagings m c (outV m c) ∗ ∃ W, owes (c : Thread nD τ) 0 W : sProp 𝕄)) := by
  match c with
  | 0 => exact body0 m K W fo
  | 1 => exact body1 m K W fo
  | 2 => exact body2 m K W fo
  | 3 => exact body3 m K W fo

/-! ## The pipeline's proof data -/

/-- What device `c`'s body starts from but for its scratch buffers. -/
def entry (c : Dev nD) : sProp 𝕄 := iprop(G' m c ∗ creds c ∗ levAts L lv)

def Φ₀ (c : Dev nD) : sProp 𝕄 := iprop(entry m c ∗ chunksAny c ∗ kvAny c)
def Φ₁ (c : Dev nD) : sProp 𝕄 := iprop(zeros c ∗ chunksAny c ∗ kvAny c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => kS m c
    | ⟨3, _⟩ => vS m c
    | ⟨4, _⟩ => woS m c
    | ⟨5, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem whole_pts (c : Dev nD) (b : Ref sig .tc) (f : Buf (Elt F) ((c : Thread nD τ).loc b)) :
    (((View.whole b).loc (c : Thread nD τ) ↦[(View.whole b).set]{fullShare} f : sProp 𝕄)) = (((c : Thread nD τ).loc b) ↦{fullShare} f) :=
  congrArg (fun I => (((c : Thread nD τ).loc b) ↦[I]{fullShare} f : sProp 𝕄)) (View.set_whole b)

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem fetched_at (w : Fin 6) (hw : w.val < 5) : (cfg0.win w).fetch t0_0 = true := by
  revert w; decide

def bodyPre (c : Dev nD) : sProp 𝕄 :=
  iprop(Φ₀ m c ∗ (dats m ρ 0 c).owesAt 0 t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def bodyPost (c : Dev nD) : sProp 𝕄 :=
  iprop(Φ₁ c ∗ (dats m ρ 0 c).owesAt 0 t0_0.succ ∗ stg c cc0_stg0_0 (xS m c) ∗ stg c cc0_stg1_0 (wqS m c) ∗ stg c cc0_stg2_0 (kS m c) ∗ stg c cc0_stg3_0 (vS m c)
    ∗ stg c cc0_stg4_0 (woS m c) ∗ stg c cc0_stg5_0 (outV m c))

/-- The staged operands are what the body takes. -/
theorem stagings_intro (c : Dev nD) (f : Buf (Elt F) ((c : Thread nD τ).loc cc0_stg5_0)) :
    iprop((((c : Thread nD τ).loc cc0_stg0_0) ↦{fullShare} xS m c) ∗ (((c : Thread nD τ).loc cc0_stg1_0) ↦{fullShare} wqS m c) ∗ (((c : Thread nD τ).loc cc0_stg2_0) ↦{fullShare} kS m c)
      ∗ (((c : Thread nD τ).loc cc0_stg3_0) ↦{fullShare} vS m c) ∗ (((c : Thread nD τ).loc cc0_stg4_0) ↦{fullShare} woS m c) ∗ (((c : Thread nD τ).loc cc0_stg5_0) ↦{fullShare} f))
      = (stagings m c f : sProp 𝕄) := by
  unfold stagings
  rw [← whole_pts, ← whole_pts, ← whole_pts, ← whole_pts, ← whole_pts, ← whole_pts]

theorem before_0 (c : Dev nD) (d) : (dats m ρ 0 c).before (0 : Fin 6) t0_0 d = xS m c := by unfold Dat.before; rw [if_pos (fetched_at 0 (by decide))]; rfl
theorem before_1 (c : Dev nD) (d) : (dats m ρ 0 c).before (1 : Fin 6) t0_0 d = wqS m c := by unfold Dat.before; rw [if_pos (fetched_at 1 (by decide))]; rfl
theorem before_2 (c : Dev nD) (d) : (dats m ρ 0 c).before (2 : Fin 6) t0_0 d = kS m c := by unfold Dat.before; rw [if_pos (fetched_at 2 (by decide))]; rfl
theorem before_3 (c : Dev nD) (d) : (dats m ρ 0 c).before (3 : Fin 6) t0_0 d = vS m c := by unfold Dat.before; rw [if_pos (fetched_at 3 (by decide))]; rfl
theorem before_4 (c : Dev nD) (d) : (dats m ρ 0 c).before (4 : Fin 6) t0_0 d = woS m c := by unfold Dat.before; rw [if_pos (fetched_at 4 (by decide))]; rfl

/-- From what the body leaves, with its cells closed, to what the pipeline takes. -/
theorem body_exit (K : GSem nD τ sig → ℕ) (c : Dev nD) :
    iprop(records m K ∗ finish c ∗ stagings m c (outV m c) ∗ ∃ W, owes (c : Thread nD τ) 0 W) ⊢ (|={Set.univ}=> bodyPost m ρ c : sProp 𝕄) := by
  unfold finish
  iintro ⟨#HR, ⟨Hp, Hch, Hkv⟩, Hst, ⟨%W, HO⟩⟩
  imod (close_all m K c) $$ [Hp] with Hz
  · isplitr; · iexact HR
    iexact Hp
  imodintro
  ihave Hst := (Entails.of_eq (stagings_intro m c (outV m c)).symm) $$ Hst
  icases Hst with ⟨H0, H1, H2, H3, H4, H5⟩
  unfold bodyPost Φ₁ Dat.owesAt Pipeline.owesWithin
  rw [show (dats m ρ 0 c).owed t0_0.succ = 0 from rfl]
  isplitl [Hz Hch Hkv]
  · isplitl [Hz]; · iexact Hz
    isplitl [Hch] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem body_sound (c : Dev nD) :
    bodyPre m ρ c ⊢ wp frame (wpE (defs₀ (F := F)) 𝒱₀ (c : Thread nD τ) none) Set.univ body (fun _ => bodyPost m ρ c : PUnit → sProp 𝕄) := by
  unfold bodyPre Φ₀ entry G'
  iintro ⟨⟨⟨⟨%K, #HR, Hp, Ht⟩, Hc, Hl⟩, Hch, Hkv⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_0] at h0
  rw [before_1] at h1
  rw [before_2] at h2
  rw [before_3] at h3
  rw [before_4] at h4
  subst h0 h1 h2 h3 h4
  unfold Dat.owesAt Pipeline.owesWithin
  icases Ho with ⟨%W, %hW, HO⟩
  rw [show (dats m ρ 0 c).owed t0_0.castSucc = O₀ c from rfl]
  ihave Hst := (Entails.of_eq (stagings_intro m c g5)) $$ [H0 H1 H2 H3 H4 H5]
  · isplitl [H0]; · iexact H0
    isplitl [H1]; · iexact H1
    isplitl [H2]; · iexact H2
    isplitl [H3]; · iexact H3
    isplitl [H4] <;> iassumption
  ihave Hw := (body_any m K c W g5) $$ [Hp Ht Hc Hl Hch Hkv HO Hst]
  · isplitr; · iexact HR
    isplitl [Hp Ht Hc Hl Hch Hkv]
    · unfold start
      isplitl [Hp]; · iexact Hp
      isplitl [Ht]; · iexact Ht
      isplitl [Hc]; · iexact Hc
      isplitl [Hl]; · iexact Hl
      isplitl [Hch] <;> iassumption
    isplitl [HO] <;> iassumption
  ihave Hw := (wp_frame_l frame (wpE (defs₀ (F := F)) 𝒱₀ (c : Thread nD τ) none) Set.univ (R := records m K)) $$ [Hw]
  · isplitr; · iexact HR
    iexact Hw
  iapply (show (wp frame (wpE (defs₀ (F := F)) 𝒱₀ (c : Thread nD τ) none) Set.univ body
      (fun _ => iprop(records m K ∗ finish c ∗ stagings m c (outV m c) ∗ ∃ W, owes (c : Thread nD τ) 0 W)) : sProp 𝕄) ⊢ _ from
    (wp_mono _ _ _ fun _ => body_exit m ρ K c).trans (wp_fupd _ _ _ _ _))
  iexact Hw

set_option maxRecDepth 4000 in
/-- The library's body obligation on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  exact body_sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ emp) := by
  iintro ⟨-, Hlev, Hcr, -, HG⟩
  ihave Hc := (creds_intro (F := F) c) $$ Hcr
  imodintro
  unfold entry
  isplitl
  · isplitl [HG]; · iexact HG
    isplitl [Hc] <;> iassumption
  · iempintro

theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨⟨%f, Hc⟩, ⟨%f1, H1⟩, ⟨%f2, H2⟩⟩⟩
  isplitl [Hs]; · iexact Hs
  isplitl [Hc]
  · iapply (chunks_fold c f f f f)
    ihave Hc := (Entails.of_eq (ctx_split c fullShare f)) $$ Hc
    iexact Hc
  iapply (kv_fold c f1 f2)
  rw [k1At_whole, v1At_whole]
  isplitl [H1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ chunksAny kvAny anyAt
  rw [zeros_exit]
  iintro ⟨⟨Hu, Ho⟩, ⟨⟨%f0, C0⟩, ⟨%f1, C1⟩, ⟨%f2, C2⟩, ⟨%f3, C3⟩⟩, ⟨%fk, Hk⟩, ⟨%fv, Hv⟩⟩
  isplitl [Hu]; · iexact Hu
  isplitl [Ho]; · iexact Ho
  isplitl [C0 C1 C2 C3]
  · iapply (ctx_join c f0 f1 f2 f3)
    isplitl [C0]; · iexact C0
    isplitl [C1]; · iexact C1
    isplitl [C2] <;> iassumption
  isplitl [Hk]
  · iexists fk
    ihave Hk := (Entails.of_eq (k1At_whole c fullShare fk)) $$ [Hk]
    · iexact Hk
    iexact Hk
  iexists fv
  ihave Hv := (Entails.of_eq (v1At_whole c fullShare fv)) $$ [Hv]
  · iexact Hv
  iexact Hv

theorem dues_above : ∀ c, ∀ x ∈ dueL c, x.2.1 = 0 ∧ 0 < lv x.1 0 := by decide

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · refine mayWait c _ (dueL c) fun x hx => ⟨due_tc c x hx, (dues_above c x hx).1, ?_⟩
      have h : lv ((c : Thread nD τ), .dma (((cfgs 0).win w).sem s)) 0 = 0 := by
        fin_cases w <;> fin_cases s <;> rfl
      rw [h]; exact (dues_above c x hx).2
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution ends, each array at its final contents and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := entry m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end

end
-- ==== Proof.KernelIdeal.Final.lean ====
/-
# The arrays after the run: the arguments as they were, the result the devices' computed one
-/
module

public import proofs.«01_k».proof.Proof.KernelIdeal.Launch
public import Idealize.ShloMosaic.Lib.Pipeline.ValueKit

@[expose] public section

set_option maxRecDepth 16384

noncomputable section

namespace Cert.KernelIdeal.Run

open Cert.KernelIdeal Cert.KernelIdeal.Gen
open Idealize.ShloMosaic
open Idealize.ShloMosaic.TcCoe
open Idealize.SL.Sem

variable {F : FTy → Type} [FloatOps F] [Named F]

variable (m : (ℓ : Loc nD τ sig) → Buf (Elt F) ℓ) (ρ : Dev nD → PrngReg)

theorem final_arg0 (c : Dev nD) : finalA m ρ c 0 = m ((c.tc : Thread nD τ).loc main_arg0) := (dats m ρ 0 c).arrAt_in (0 : Fin 6) rfl _
theorem final_arg1 (c : Dev nD) : finalA m ρ c 1 = m ((c.tc : Thread nD τ).loc main_arg1) := (dats m ρ 0 c).arrAt_in (1 : Fin 6) rfl _
theorem final_arg2 (c : Dev nD) : finalA m ρ c 2 = m ((c.tc : Thread nD τ).loc main_arg2) := (dats m ρ 0 c).arrAt_in (2 : Fin 6) rfl _
theorem final_arg3 (c : Dev nD) : finalA m ρ c 3 = m ((c.tc : Thread nD τ).loc main_arg3) := (dats m ρ 0 c).arrAt_in (3 : Fin 6) rfl _
theorem final_arg4 (c : Dev nD) : finalA m ρ c 4 = m ((c.tc : Thread nD τ).loc main_arg4) := (dats m ρ 0 c).arrAt_in (4 : Fin 6) rfl _

/-- The result array's one block is the whole array, and holds what the body left. -/
theorem final_out (c : Dev nD) : finalA m ρ c 5 = (outV m c : S2x512x768.Idx → Elt F .f32) :=
  (dats m ρ 0 c).arrAt_eq_of_after_last 5 t0_0 (by decide +kernel) _ fun j => by
    blk_simp
    rfl

/-- Every execution ends with each device's result computed, the arguments as they were and every counter at zero. -/
theorem run : θ_run defs (onTc (τ := τ) (main (F := F))) ⟨m, fun _ => 0, ρ⟩ (fun r => (∀ c : Dev nD,
      r.2.mem ((c.tc : Thread nD τ).loc main_v1) = (outV m c : S2x512x768.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 5).trans (final_out m ρ c), (h.1 c 0).trans (final_arg0 m ρ c), (h.1 c 1).trans (final_arg1 m ρ c),
    (h.1 c 2).trans (final_arg2 m ρ c), (h.1 c 3).trans (final_arg3 m ρ c), (h.1 c 4).trans (final_arg4 m ρ c)⟩, h.2⟩) (run_main m ρ)

/-! Each staged operand is the whole argument array. -/

theorem xS_eq (c : Dev nD) (i : S2x512x768.Idx) : (xS m c : S2x512x768.Idx → Elt F .f32) i = m ((c.tc : Thread nD τ).loc main_arg0) i := by
  have e : win0_0.index (0 : Fin 1) = fun _ => 0 := by decide
  unfold xS; blk_simp; exact congrArg _ (by blk_ext [e])
theorem wqS_eq (c : Dev nD) (i : S768x512.Idx) : (wqS m c : S768x512.Idx → Elt F .f32) i = m ((c.tc : Thread nD τ).loc main_arg1) i := by
  have e : win0_1.index (0 : Fin 1) = fun _ => 0 := by decide
  unfold wqS; blk_simp; exact congrArg _ (by blk_ext [e])
theorem kS_eq (c : Dev nD) (i : S2x512x8x64.Idx) : (kS m c : S2x512x8x64.Idx → Elt F .f32) i = m ((c.tc : Thread nD τ).loc main_arg2) i := by
  have e : win0_2.index (0 : Fin 1) = fun _ => 0 := by decide
  unfold kS; blk_simp; exact congrArg _ (by blk_ext [e])
theorem vS_eq (c : Dev nD) (i : S2x512x8x64.Idx) : (vS m c : S2x512x8x64.Idx → Elt F .f32) i = m ((c.tc : Thread nD τ).loc main_arg3) i := by
  have e : win0_3.index (0 : Fin 1) = fun _ => 0 := by decide
  unfold vS; blk_simp; exact congrArg _ (by blk_ext [e])
theorem woS_eq (c : Dev nD) (i : S512x768.Idx) : (woS m c : S512x768.Idx → Elt F .f32) i = m ((c.tc : Thread nD τ).loc main_arg4) i := by
  have e : win0_4.index (0 : Fin 1) = fun _ => 0 := by decide
  unfold woS; blk_simp; exact congrArg _ (by blk_ext [e])

end Cert.KernelIdeal.Run

end

end
-- ==== Proof.Value.Mask.lean ====
/-
# The masks over words

A query row `i` keeps the keys at most 128 away. Each program writes that as a comparison
of 32-bit words; here each comparison is the same bit, `inside`.
-/
module

public import Idealize.ShloMosaic.Lib.Pointwise
public import Idealize.ShloMosaic.Lib.WordCmp

@[expose] public section

noncomputable section

namespace Cert.Mask

open Idealize.ShloMosaic

/-- Column `j` is at most 128 from row `i`, as a mask bit. -/
def inside (i j : ℕ) : BitVec 1 := BitVec.ofBool (decide (i ≤ j + 128 ∧ j ≤ i + 128))

theorem inside_of (i j : ℕ) (h : i ≤ j + 128 ∧ j ≤ i + 128) : inside i j = 1#1 := by
  unfold inside; rw [decide_eq_true h]; rfl

theorem inside_not (i j : ℕ) (h : ¬(i ≤ j + 128 ∧ j ≤ i + 128)) : inside i j = 0#1 := by
  unfold inside; rw [decide_eq_false h]; rfl

theorem word_toInt {n : ℕ} (h : n < 4096) : (BitVec.ofNat 32 n).toInt = n := by
  rw [BitVec.toInt_eq_toNat_bmod, BitVec.toNat_ofNat, Nat.mod_eq_of_lt (by omega), Int.bmod_eq_of_le (by omega) (by omega)]

theorem sub_toInt {x y : BitVec 32} (hx : -4096 < x.toInt ∧ x.toInt < 4096) (hy : -4096 < y.toInt ∧ y.toInt < 4096) :
    (x - y).toInt = x.toInt - y.toInt := by
  rw [BitVec.toInt_sub, Int.bmod_eq_of_le (by omega) (by omega)]

theorem abs_toInt {x : BitVec 32} (hx : -4096 < x.toInt ∧ x.toInt < 4096) : (IntOp.absi x).toInt = x.toInt.natAbs := by
  unfold IntOp.absi
  rw [BitVec.msb_eq_toInt]
  by_cases h : x.toInt < 0
  · rw [if_pos (decide_eq_true h), BitVec.toInt_neg, Int.bmod_eq_of_le (by omega) (by omega)]; omega
  · rw [if_neg (by simpa using h)]; omega

/-- A signed comparison, of the integers. -/
theorem cmpi_sle (x y : BitVec 32) : IntOp.cmpi .sle x y = BitVec.ofBool (decide (x.toInt ≤ y.toInt)) := rfl

/-- The distance compared with 128. -/
theorem distance (i j : ℕ) (hi : i < 512) (hj : j < 2048) :
    IntOp.cmpi .sle (IntOp.absi (IntOp.subi (BitVec.ofNat 32 i) (BitVec.ofNat 32 j))) 128#32 = inside i j := by
  have ei := word_toInt (n := i) (by omega)
  have ej := word_toInt (n := j) (by omega)
  have d : (IntOp.subi (BitVec.ofNat 32 i) (BitVec.ofNat 32 j)).toInt = (i : ℤ) - j := by
    unfold IntOp.subi; rw [sub_toInt (by omega) (by omega), ei, ej]
  rw [cmpi_sle, abs_toInt (by omega), d]
  unfold inside
  congr 1
  refine decide_eq_decide.mpr ?_
  rw [show (128#32).toInt = 128 from rfl]
  omega

/-- Column `512 + j`, which is past the row, less the row, compared with 128. -/
theorem ahead (i j : ℕ) (hi : i < 512) (hj : j < 128) :
    IntOp.cmpi .sle (IntOp.subi (IntOp.addi (BitVec.ofNat 32 j) 512#32) (BitVec.ofNat 32 i)) 128#32 = inside i (512 + j) := by
  have ei := word_toInt (n := i) (by omega)
  have ej := word_toInt (n := j + 512) (by omega)
  have e : IntOp.addi (BitVec.ofNat 32 j) 512#32 = BitVec.ofNat 32 (j + 512) := (BitVec.ofNat_add j 512).symm
  have d : (IntOp.subi (BitVec.ofNat 32 (j + 512)) (BitVec.ofNat 32 i)).toInt = ((j + 512 : ℕ) : ℤ) - i := by
    unfold IntOp.subi; rw [sub_toInt (by omega) (by omega), ei, ej]
  rw [cmpi_sle, e, d]
  unfold inside
  congr 1
  refine decide_eq_decide.mpr ?_
  rw [show (128#32).toInt = 128 from rfl]
  omega

/-- The disjunction of some bits, one of which is one. -/
theorem fold_ori {n : ℕ} (f : Fin n → BitVec 1) (k : Fin n) (h : f k = 1#1) : Finset.fold IntOp.ori (0#1) f Finset.univ = 1#1 := by
  rw [← Finset.insert_erase (Finset.mem_univ k), Finset.fold_insert (Finset.notMem_erase k _), h]
  generalize Finset.fold IntOp.ori (0#1) f _ = y
  revert y; decide

end Cert.Mask

end

end
-- ==== Proof.Value.Row.lean ====
/-
# One row of the attention

A row of scores over 2048 columns that is ⊥ from column 640 on. The reference divides
each weight by the sum and then mixes the values; the kernel mixes the values of columns
0 to 511 and of columns 512 to 639 and divides once. The two agree when every score is
real or ⊥ and one of them is real, whatever the values.
-/
module

public import Idealize.ShloMosaic.Lib.Pointwise

@[expose] public section

noncomputable section

namespace Cert.Row

open Idealize.ShloMosaic

/-- Column `j` of the first 512. -/
def lo (j : Fin 512) : Fin 2048 := ⟨j, by omega⟩

/-- Column `512 + j`, of the 128 that follow. -/
def hi (j : Fin 128) : Fin 2048 := ⟨512 + j, by omega⟩

theorem cols (j : Fin 2048) : (∃ a, j = lo a) ∨ (∃ a, j = hi a) ∨ 640 ≤ j.val := by
  by_cases h : j.val < 512
  · exact .inl ⟨⟨j, h⟩, rfl⟩
  · by_cases h' : j.val < 640
    · exact .inr (.inl ⟨⟨j - 512, by omega⟩, Fin.ext (by simp only [hi]; omega)⟩)
    · exact .inr (.inr (by omega))

/-- A sum over the columns, zero from column 640 on, is the sum over the two pieces. -/
theorem sum_cols (f : Fin 2048 → EReal) (h : ∀ j : Fin 2048, 640 ≤ j.val → f j = 0) :
    ∑ j, f j = ∑ j, f (lo j) + ∑ j, f (hi j) := by
  have e1 := Fin.sum_univ_add (a := 640) (b := 1408) f
  have e2 := Fin.sum_univ_add (a := 512) (b := 128) (fun j => f (Fin.castAdd 1408 j))
  have e3 : ∑ i : Fin 1408, f (Fin.natAdd 640 i) = 0 :=
    Finset.sum_eq_zero fun i _ => h _ (Nat.le_add_right 640 i)
  exact e1.trans (by rw [e3, add_zero]; exact e2)

/-- The greatest of a row. -/
def top {n : ℕ} (s : Fin n → EReal) : EReal := Finset.fold max ⊥ s Finset.univ

theorem top_eq_sup {n : ℕ} (s : Fin n → EReal) : top s = Finset.univ.sup s := rfl

theorem top_cols (s : Fin 2048 → EReal) (h : ∀ j : Fin 2048, 640 ≤ j.val → s j = ⊥) :
    top s = max (top fun j => s (lo j)) (top fun j => s (hi j)) := by
  simp only [top_eq_sup]
  apply le_antisymm
  · refine Finset.sup_le fun j _ => ?_
    rcases cols j with ⟨a, rfl⟩ | ⟨a, rfl⟩ | hj
    · exact le_max_of_le_left (Finset.le_sup (f := fun j => s (lo j)) (Finset.mem_univ a))
    · exact le_max_of_le_right (Finset.le_sup (f := fun j => s (hi j)) (Finset.mem_univ a))
    · rw [h j hj]; exact bot_le
  · exact max_le (Finset.sup_le fun a _ => Finset.le_sup (Finset.mem_univ _))
      (Finset.sup_le fun a _ => Finset.le_sup (Finset.mem_univ _))

/-- Every score is real or ⊥, and one is real. -/
structure Good (s : Fin 2048 → EReal) : Prop where
  real : ∀ j, s j = ⊥ ∨ ∃ r : ℝ, s j = r
  some : ∃ j, ∃ r : ℝ, s j = r
  far : ∀ j : Fin 2048, 640 ≤ j.val → s j = ⊥

variable {s : Fin 2048 → EReal}

theorem Good.top_real (g : Good s) : ∃ r : ℝ, top s = r := by
  obtain ⟨j, _, e⟩ := Finset.exists_mem_eq_sup Finset.univ ⟨0, Finset.mem_univ _⟩ s
  rw [top_eq_sup]
  rcases g.real j with hb | ⟨r, hr⟩
  · obtain ⟨k, r, hr⟩ := g.some
    have : s k ≤ Finset.univ.sup s := Finset.le_sup (Finset.mem_univ k)
    rw [e, hb, hr] at this
    exact absurd (le_bot_iff.mp this) (EReal.coe_ne_bot r)
  · exact ⟨r, e.trans hr⟩

/-- The weight of a column. -/
def wt (s : Fin 2048 → EReal) (j : Fin 2048) : EReal := Ideal.exp (s j - top s)

theorem Good.wt_bot (g : Good s) {j : Fin 2048} (h : s j = ⊥) : wt s j = 0 := by
  obtain ⟨M, hM⟩ := g.top_real
  rw [wt, h, hM, EReal.bot_sub]
  rfl

theorem Good.wt_real (g : Good s) {j : Fin 2048} {r : ℝ} (h : s j = r) :
    ∃ w : ℝ, 0 < w ∧ wt s j = w := by
  obtain ⟨M, hM⟩ := g.top_real
  refine ⟨Real.exp (r - M), Real.exp_pos _, ?_⟩
  rw [wt, h, hM, ← EReal.coe_sub]
  rfl

theorem Good.wt_nonneg (g : Good s) (j : Fin 2048) : ∃ w : ℝ, 0 ≤ w ∧ wt s j = w := by
  rcases g.real j with h | ⟨r, h⟩
  · exact ⟨0, le_rfl, g.wt_bot h⟩
  · obtain ⟨w, hw, e⟩ := g.wt_real h
    exact ⟨w, hw.le, e⟩

theorem Good.sum_real (g : Good s) : ∃ L : ℝ, 0 < L ∧ ∑ j, wt s j = L := by
  choose w hw e using g.wt_nonneg
  refine ⟨∑ j, w j, ?_, ?_⟩
  · obtain ⟨j, r, hr⟩ := g.some
    obtain ⟨u, hu, eu⟩ := g.wt_real hr
    have : w j = u := EReal.coe_injective ((e j).symm.trans eu)
    exact lt_of_lt_of_le (this ▸ hu) (Finset.single_le_sum (fun i _ => hw i) (Finset.mem_univ j))
  · rw [Finset.sum_congr rfl fun j _ => e j]
    exact (map_sum (⟨⟨((↑) : ℝ → EReal), EReal.coe_zero⟩, EReal.coe_add⟩ : ℝ →+ EReal) w Finset.univ).symm

/-- A nonnegative real goes into a sum. -/
theorem sum_mul_real {ι : Type} (t : Finset ι) (f : ι → EReal) {r : ℝ} (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih,
      EReal.right_distrib_of_nonneg_of_ne_top (by exact_mod_cast hr) (EReal.coe_ne_top r)]

/-- Dividing the mixture once is mixing by the divided weights. -/
theorem Good.mix (g : Good s) (v : Fin 2048 → EReal) :
    Ideal.div (∑ j, wt s (lo j) * v (lo j) + ∑ j, wt s (hi j) * v (hi j))
        (∑ j, wt s (lo j) + ∑ j, wt s (hi j)) =
      ∑ j, v j * Ideal.div (wt s j) (∑ k, wt s k) := by
  rw [← sum_cols (fun j => wt s j * v j) (fun j hj => by rw [g.wt_bot (g.far j hj), zero_mul]),
    ← sum_cols (wt s) (fun j hj => g.wt_bot (g.far j hj))]
  obtain ⟨L, hL, e⟩ := g.sum_real
  rw [e, Ideal.div_coe hL.ne', sum_mul_real _ _ (by positivity)]
  refine Finset.sum_congr rfl fun j _ => ?_
  rw [Ideal.div_coe hL.ne', mul_comm (wt s j) (v j), mul_assoc]

end Cert.Row

end

end
-- ==== Proof.Value.KernelRead.lean ====
/-
# The kernel read element by element

Each step of a head's attention, and each operand it reads from the staged arrays, at an
index over the extended reals.
-/
module

public import proofs.«01_k».proof.Proof.KernelIdeal.Final
public import proofs.«01_k».proof.Proof.Value.Mask
public import proofs.«01_k».proof.Proof.Value.Row

@[expose] public section

set_option maxRecDepth 16384

noncomputable section

namespace Cert.KernelIdeal.Read

open Cert.KernelIdeal Cert.KernelIdeal.Gen Cert.KernelIdeal.Run
open Idealize.ShloMosaic
open Idealize.ShloMosaic.TcCoe
open Idealize.ShloMosaic.Pointwise
open Cert.Mask

theorem mask0_at (i : Fin 512) (j : Fin 512) : (k0_pay11 : IVec S512x512 1) (ix2 i j) = inside i j := by
  pointwise [k0_pay11]
  exact distance i j i.isLt (by omega)

theorem mask1_at (i : Fin 512) (j : Fin 128) : (k0_pay12 : IVec S512x128 1) (ix2 i j) = inside i (512 + j) := by
  pointwise [k0_pay12]
  exact ahead i j i.isLt j.isLt

theorem score0_at (q k : FVec Ideal S512x64 .f32) (i : Fin 512) (j : Fin 512) :
    score0 q k (ix2 i j) = Scalar.select (inside i j) ((∑ x, q (ix2 i x) * k (ix2 j x)) * Ideal.ofBits .f32 0x3E000000#32) ⊥ := by
  pointwise [score0]
  rw [mask0_at]
  rfl

theorem score1_at (q : FVec Ideal S512x64 .f32) (k : FVec Ideal S128x64 .f32) (i : Fin 512) (j : Fin 128) :
    score1 q k (ix2 i j) = Scalar.select (inside i (512 + j)) ((∑ x, q (ix2 i x) * k (ix2 j x)) * Ideal.ofBits .f32 0x3E000000#32) ⊥ := by
  pointwise [score1]
  rw [mask1_at]
  rfl

theorem rowMax_at (s0 : FVec Ideal S512x512 .f32) (s1 : FVec Ideal S512x128 .f32) (i : Fin 512) :
    rowMax s0 s1 (ix2 i 0) = max (Row.top fun j => s0 (ix2 i j)) (Row.top fun j => s1 (ix2 i j)) := by
  pointwise [rowMax]
  rfl

theorem wt0_at (s0 : FVec Ideal S512x512 .f32) (mx : FVec Ideal S512x1 .f32) (i : Fin 512) (j : Fin 512) :
    wt0 s0 mx (ix2 i j) = Ideal.exp (s0 (ix2 i j) - mx (ix2 i 0)) := by
  pointwise [wt0]

theorem wt1_at (s1 : FVec Ideal S512x128 .f32) (mx : FVec Ideal S512x1 .f32) (i : Fin 512) (j : Fin 128) :
    wt1 s1 mx (ix2 i j) = Ideal.exp (s1 (ix2 i j) - mx (ix2 i 0)) := by
  pointwise [wt1]

theorem mix_at (w0 : FVec Ideal S512x512 .f32) (w1 : FVec Ideal S512x128 .f32) (v : FVec Ideal S512x64 .f32) (v1 : FVec Ideal S128x64 .f32) (i : Fin 512) (d : Fin 64) :
    mix w0 w1 v v1 (ix2 i d) = Ideal.div (∑ x, w0 (ix2 i x) * v (ix2 x d) + ∑ x, w1 (ix2 i x) * v1 (ix2 x d))
      (∑ x, w0 (ix2 i x) + ∑ x, w1 (ix2 i x)) := by
  pointwise [mix, rowSum]

/-- A head's columns of 512 rows, -/
theorem cut_at (h : Fin 8) (q : FVec Ideal S512x512 .f32) (i : Fin 512) (d : Fin 64) :
    extractStridedSlice S512x64 (hOff h) q (hOff_slices h) (ix2 i d) = q (ix2 i ⟨64 * h + d, by omega⟩) := by
  pointwise []

/-- and of 128. -/
theorem cut1_at (h : Fin 8) (q : FVec Ideal S128x512 .f32) (i : Fin 128) (d : Fin 64) :
    extractStridedSlice S128x64 (hOff h) q (hOff_slices1 h) (ix2 i d) = q (ix2 i ⟨64 * h + d, by omega⟩) := by
  pointwise []

/-! An index of a box, in the array the box is cut from. -/

theorem box2 {n0 n1 k0 k1 : ℕ} (o : Fin 2 → ℕ) (inb : ∀ a, o a + (![k0, k1] : Fin 2 → ℕ) a ≤ (⟨2, ![n0, n1]⟩ : Shape).size a) {i : Fin k0} {j : Fin k1}
    (i' : Fin n0) (j' : Fin n1) (h0 : o 0 + i.val = i'.val) (h1 : o 1 + j.val = j'.val) :
    (Rect.unit (s := ⟨2, ![n0, n1]⟩) o ![k0, k1] inb).idx (ix2 i j) = ix2 i' j' := by
  have e := Rect.idx_unit_val (s := ⟨2, ![n0, n1]⟩) o ![k0, k1] inb (ix2 i j)
  funext a
  match a with
  | ⟨0, _⟩ => exact Fin.ext ((e 0).trans h0)
  | ⟨1, _⟩ => exact Fin.ext ((e 1).trans h1)

theorem box3 {n0 n1 n2 k0 k1 k2 : ℕ} (o : Fin 3 → ℕ) (inb : ∀ a, o a + (![k0, k1, k2] : Fin 3 → ℕ) a ≤ (⟨3, ![n0, n1, n2]⟩ : Shape).size a)
    {i : Fin k0} {j : Fin k1} {k : Fin k2} (i' : Fin n0) (j' : Fin n1) (k' : Fin n2)
    (h0 : o 0 + i.val = i'.val) (h1 : o 1 + j.val = j'.val) (h2 : o 2 + k.val = k'.val) :
    (Rect.unit (s := ⟨3, ![n0, n1, n2]⟩) o ![k0, k1, k2] inb).idx (ix3 i j k) = ix3 i' j' k' := by
  have e := Rect.idx_unit_val (s := ⟨3, ![n0, n1, n2]⟩) o ![k0, k1, k2] inb (ix3 i j k)
  funext a
  match a with
  | ⟨0, _⟩ => exact Fin.ext ((e 0).trans h0)
  | ⟨1, _⟩ => exact Fin.ext ((e 1).trans h1)
  | ⟨2, _⟩ => exact Fin.ext ((e 2).trans h2)

theorem box4 {n0 n1 n2 n3 k0 k1 k2 k3 : ℕ} (o : Fin 4 → ℕ) (inb : ∀ a, o a + (![k0, k1, k2, k3] : Fin 4 → ℕ) a ≤ (⟨4, ![n0, n1, n2, n3]⟩ : Shape).size a)
    {i : Fin k0} {j : Fin k1} {k : Fin k2} {l : Fin k3} (i' : Fin n0) (j' : Fin n1) (k' : Fin n2) (l' : Fin n3)
    (h0 : o 0 + i.val = i'.val) (h1 : o 1 + j.val = j'.val) (h2 : o 2 + k.val = k'.val) (h3 : o 3 + l.val = l'.val) :
    (Rect.unit (s := ⟨4, ![n0, n1, n2, n3]⟩) o ![k0, k1, k2, k3] inb).idx (ix4 i j k l) = ix4 i' j' k' l' := by
  have e := Rect.idx_unit_val (s := ⟨4, ![n0, n1, n2, n3]⟩) o ![k0, k1, k2, k3] inb (ix4 i j k l)
  funext a
  match a with
  | ⟨0, _⟩ => exact Fin.ext ((e 0).trans h0)
  | ⟨1, _⟩ => exact Fin.ext ((e 1).trans h1)
  | ⟨2, _⟩ => exact Fin.ext ((e 2).trans h2)
  | ⟨3, _⟩ => exact Fin.ext ((e 3).trans h3)

end Cert.KernelIdeal.Read

end

end
-- ==== Proof.Value.Operands.lean ====
/-
# What device 0 reads from the staged arrays

The queries, keys and values of a batch entry, and the result, at an index, in terms of
the arrays the program was started with.
-/
module

public import proofs.«01_k».proof.Proof.Value.KernelRead

@[expose] public section

set_option maxRecDepth 16384

noncomputable section

namespace Cert.KernelIdeal.Read

open Cert.KernelIdeal Cert.KernelIdeal.Gen Cert.KernelIdeal.Run
open Idealize.ShloMosaic
open Idealize.ShloMosaic.TcCoe
open Idealize.ShloMosaic.Pointwise

variable (m : (ℓ : Loc nD τ sig) → Buf (Elt Ideal) ℓ)

/-! The arguments, at their own shapes. -/

abbrev xA : FVec Ideal S2x512x768 .f32 := m (((0 : Dev nD).tc : Thread nD τ).loc main_arg0)
abbrev wqA : FVec Ideal S768x512 .f32 := m (((0 : Dev nD).tc : Thread nD τ).loc main_arg1)
abbrev kA (c : Dev nD) : FVec Ideal S2x512x8x64 .f32 := m ((c.tc : Thread nD τ).loc main_arg2)
abbrev vA (c : Dev nD) : FVec Ideal S2x512x8x64 .f32 := m ((c.tc : Thread nD τ).loc main_arg3)
abbrev woA (c : Dev nD) : FVec Ideal S512x768 .f32 := m ((c.tc : Thread nD τ).loc main_arg4)

theorem qB_at (b : Fin 2) (i : Fin 512) (n : Fin 512) : qB m b (ix2 i n) = ∑ x, xA m (ix3 b i x) * wqA m (ix2 x n) := by
  have hw : ∀ x : Fin 768, View.readAt (Elt Ideal) wqM.view
          (Rect.unit (s := S768x512) ![0, 0] S768x512.size inb_S768x512_S768x512_0_0).toLoadRect (wqS m 0) (ix2 x n) = wqA m (ix2 x n) := fun x =>
    (congrArg (wqS m 0) (box2 _ _ x n (Nat.zero_add _) (Nat.zero_add _))).trans (wqS_eq m 0 (ix2 x n))
  match b with
  | 0 =>
    unfold qB
    pointwise [k0_pay9]
    exact Finset.sum_congr rfl fun x _ => congrArg₂ (· * ·)
      ((congrArg (xS m 0) (box3 _ _ 0 i x rfl (Nat.zero_add _) (Nat.zero_add _))).trans (xS_eq m 0 (ix3 0 i x))) (hw x)
  | 1 =>
    unfold qB
    pointwise [k0_pay9]
    exact Finset.sum_congr rfl fun x _ => congrArg₂ (· * ·)
      ((congrArg (xS m 0) (box3 _ _ 1 i x rfl (Nat.zero_add _) (Nat.zero_add _))).trans (xS_eq m 0 (ix3 1 i x))) (hw x)

theorem kB_at (b : Fin 2) (i : Fin 512) (h : Fin 8) (d : Fin 64) : kB m b (ix2 i ⟨64 * h + d, by omega⟩) = kA m 0 (ix4 b i h d) := by
  match b with
  | 0 =>
    unfold kB
    pointwise [k0_pay13]
    exact (congrArg (kS m 0) (box4 _ _ 0 i h d rfl (Nat.zero_add _) (Nat.zero_add _) (Nat.zero_add _))).trans (kS_eq m 0 (ix4 0 i h d))
  | 1 =>
    unfold kB
    pointwise [k0_pay13]
    exact (congrArg (kS m 0) (box4 _ _ 1 i h d rfl (Nat.zero_add _) (Nat.zero_add _) (Nat.zero_add _))).trans (kS_eq m 0 (ix4 1 i h d))

theorem vB_at (b : Fin 2) (i : Fin 512) (h : Fin 8) (d : Fin 64) : vB m b (ix2 i ⟨64 * h + d, by omega⟩) = vA m 0 (ix4 b i h d) := by
  match b with
  | 0 =>
    unfold vB
    pointwise [k0_pay14]
    exact (congrArg (vS m 0) (box4 _ _ 0 i h d rfl (Nat.zero_add _) (Nat.zero_add _) (Nat.zero_add _))).trans (vS_eq m 0 (ix4 0 i h d))
  | 1 =>
    unfold vB
    pointwise [k0_pay14]
    exact (congrArg (vS m 0) (box4 _ _ 1 i h d rfl (Nat.zero_add _) (Nat.zero_add _) (Nat.zero_add _))).trans (vS_eq m 0 (ix4 1 i h d))

theorem k1V_at (b : Fin 2) (i : Fin 128) (h : Fin 8) (d : Fin 64) :
    (k1V m : FVec Ideal S2x128x8x64 .f32) (ix4 b i h d) = kA m 1 (ix4 b ⟨i, by omega⟩ h d) := by
  unfold k1V
  pointwise [k0_pay2]
  exact (congrArg (kS m 1) (box4 _ _ b ⟨i, by omega⟩ h d (Nat.zero_add _) (Nat.zero_add _) (Nat.zero_add _) (Nat.zero_add _))).trans (kS_eq m 1 _)

theorem v1V_at (b : Fin 2) (i : Fin 128) (h : Fin 8) (d : Fin 64) :
    (v1V m : FVec Ideal S2x128x8x64 .f32) (ix4 b i h d) = vA m 1 (ix4 b ⟨i, by omega⟩ h d) := by
  unfold v1V
  pointwise [k0_pay3]
  exact (congrArg (vS m 1) (box4 _ _ b ⟨i, by omega⟩ h d (Nat.zero_add _) (Nat.zero_add _) (Nat.zero_add _) (Nat.zero_add _))).trans (vS_eq m 1 _)

theorem k1B_at (b : Fin 2) (i : Fin 128) (h : Fin 8) (d : Fin 64) : k1B m b (ix2 i ⟨64 * h + d, by omega⟩) = kA m 1 (ix4 b ⟨i, by omega⟩ h d) := by
  match b with
  | 0 =>
    unfold k1B
    pointwise [k0_pay15]
    exact (congrArg (k1V m) (box4 _ _ 0 i h d rfl (Nat.zero_add _) (Nat.zero_add _) (Nat.zero_add _))).trans (k1V_at m 0 i h d)
  | 1 =>
    unfold k1B
    pointwise [k0_pay15]
    exact (congrArg (k1V m) (box4 _ _ 1 i h d rfl (Nat.zero_add _) (Nat.zero_add _) (Nat.zero_add _))).trans (k1V_at m 1 i h d)

theorem v1B_at (b : Fin 2) (i : Fin 128) (h : Fin 8) (d : Fin 64) : v1B m b (ix2 i ⟨64 * h + d, by omega⟩) = vA m 1 (ix4 b ⟨i, by omega⟩ h d) := by
  match b with
  | 0 =>
    unfold v1B
    pointwise [k0_pay16]
    exact (congrArg (v1V m) (box4 _ _ 0 i h d rfl (Nat.zero_add _) (Nat.zero_add _) (Nat.zero_add _))).trans (v1V_at m 0 i h d)
  | 1 =>
    unfold v1B
    pointwise [k0_pay16]
    exact (congrArg (v1V m) (box4 _ _ 1 i h d rfl (Nat.zero_add _) (Nat.zero_add _) (Nat.zero_add _))).trans (v1V_at m 1 i h d)

/-- One term of the output product: column `n` of the context, which is a column of head `n / 64`, by row `n` of the weights. -/
def term (c : Dev nD) (b : Fin 2) (i : Fin 512) (e : Fin 768) (n : Fin 512) : EReal :=
  headV m b ⟨n / 64, by omega⟩ (ix2 i ⟨n % 64, by omega⟩) * woA m c (ix2 n e)

/-- The attention buffer, at its own shape. -/
abbrev ctxA : FVec Ideal S4x512x256 .f32 := ctxV m

theorem ctxV_at (g : Fin 4) (i : Fin 512) (x : Fin 256) :
    ctxA m (ix3 g i x) =
      headV m ⟨g / 2, by omega⟩ ⟨4 * (g % 2) + x / 64, by omega⟩ (ix2 i ⟨x % 64, by omega⟩) := by
  unfold ctxA ctxV
  refine congrArg _ ?_
  funext a
  match a with
  | ⟨0, _⟩ => rfl
  | ⟨1, _⟩ => rfl

theorem woTop_at (c : Dev nD) (x : Fin 256) (e : Fin 768) : woTop m c (ix2 x e) = woA m c (ix2 ⟨x, by omega⟩ e) := by
  unfold woTop
  exact (congrArg (woS m c) (box2 _ _ ⟨x, by omega⟩ e (Nat.zero_add _) (Nat.zero_add _))).trans (woS_eq m c _)

theorem woBot_at (c : Dev nD) (x : Fin 256) (e : Fin 768) : woBot m c (ix2 x e) = woA m c (ix2 ⟨256 + x, by omega⟩ e) := by
  unfold woBot
  exact (congrArg (woS m c) (box2 _ _ ⟨256 + x, by omega⟩ e rfl (Nat.zero_add _))).trans (woS_eq m c _)

theorem head_congr (i : Fin 512) {b b' : Fin 2} {h h' : Fin 8} {d d' : Fin 64} (eb : b = b') (eh : h = h') (ed : d = d') :
    headV m b h (ix2 i d) = headV m b' h' (ix2 i d') := by subst eb eh ed; rfl

/-- A term of the first four heads, -/
theorem term_top (c : Dev nD) (b : Fin 2) (g : Fin 4) (hg : g.val = 2 * b.val) (i : Fin 512) (e : Fin 768) (x : Fin 256) :
    ctxA m (ix3 g i x) * woTop m c (ix2 x e) = term m c b i e ⟨x, by omega⟩ := by
  rw [ctxV_at, woTop_at]
  exact congrArg (· * _) (head_congr m i (Fin.ext (show g.val / 2 = b.val by omega))
    (Fin.ext (show 4 * (g.val % 2) + x.val / 64 = x.val / 64 by omega)) rfl)

/-- and of the last four. -/
theorem term_bot (c : Dev nD) (b : Fin 2) (g : Fin 4) (hg : g.val = 2 * b.val + 1) (i : Fin 512) (e : Fin 768) (x : Fin 256) :
    ctxA m (ix3 g i x) * woBot m c (ix2 x e) = term m c b i e ⟨256 + x, by omega⟩ := by
  rw [ctxV_at, woBot_at]
  exact congrArg (· * _) (head_congr m i (Fin.ext (show g.val / 2 = b.val by omega))
    (Fin.ext (show 4 * (g.val % 2) + x.val / 64 = (256 + x.val) / 64 by omega)) (Fin.ext (show x.val % 64 = (256 + x.val) % 64 by omega)))

theorem sum_halves (f : Fin 512 → EReal) : ∑ x : Fin 256, f ⟨x, by omega⟩ + ∑ x : Fin 256, f ⟨256 + x, by omega⟩ = ∑ n, f n :=
  (Fin.sum_univ_add (a := 256) (b := 256) f).symm

theorem out0_at (c : Dev nD) (i : Fin 512) (e : Fin 768) : out0 m c (ix3 0 i e) = ∑ n, term m c 0 i e n := by
  unfold out0
  pointwise [k0_pay4, k0_pay5]
  refine Eq.trans ?_ (sum_halves _)
  refine congrArg₂ (· + ·) (Finset.sum_congr rfl fun x _ => ?_) (Finset.sum_congr rfl fun x _ => ?_)
  · exact (congrArg (fun j => ctxA m j * woTop m c (ix2 x e)) (box3 _ _ 0 i x rfl (Nat.zero_add _) (Nat.zero_add _))).trans
      (term_top m c 0 0 rfl i e x)
  · exact (congrArg (fun j => ctxA m j * woBot m c (ix2 x e)) (box3 _ _ 1 i x rfl (Nat.zero_add _) (Nat.zero_add _))).trans
      (term_bot m c 0 1 rfl i e x)

theorem out1_at (c : Dev nD) (i : Fin 512) (e : Fin 768) : out1 m c (ix3 0 i e) = ∑ n, term m c 1 i e n := by
  unfold out1
  pointwise [k0_pay4, k0_pay5]
  refine Eq.trans ?_ (sum_halves _)
  refine congrArg₂ (· + ·) (Finset.sum_congr rfl fun x _ => ?_) (Finset.sum_congr rfl fun x _ => ?_)
  · exact (congrArg (fun j => ctxA m j * woTop m c (ix2 x e)) (box3 _ _ 2 i x rfl (Nat.zero_add _) (Nat.zero_add _))).trans
      (term_top m c 1 2 rfl i e x)
  · exact (congrArg (fun j => ctxA m j * woBot m c (ix2 x e)) (box3 _ _ 3 i x rfl (Nat.zero_add _) (Nat.zero_add _))).trans
      (term_bot m c 1 3 rfl i e x)

/-- Each entry of a device's result is the product of the context's row and the weights' column. -/
theorem outV_at (c : Dev nD) (b : Fin 2) (i : Fin 512) (e : Fin 768) :
    (outV m c : FVec Ideal S2x512x768 .f32) (ix3 b i e) = ∑ n, term m c b i e n := by
  have hi : ∀ b : Fin 2, inEntry (ix3 b i e) = ix3 0 i e := fun b => by
    funext a
    match a with
    | ⟨0, _⟩ => rfl
    | ⟨1, _⟩ => rfl
    | ⟨2, _⟩ => rfl
  match b with
  | 0 =>
    show out0 m c (inEntry (ix3 0 i e)) = _
    rw [hi]; exact out0_at m c i e
  | 1 =>
    show out1 m c (inEntry (ix3 1 i e)) = _
    rw [hi]; exact out1_at m c i e

end Cert.KernelIdeal.Read

end

end
-- ==== Proof.Value.Reference.lean ====
/-
# The reference read element by element

The reference's one term is cut into its steps, and each step is read at an index over the extended reals.
-/
module

public import proofs.«01_k».proof.Proof.Gen.ReferenceIdeal
public import proofs.«01_k».proof.Proof.Gen.ReferenceIdeal.Run
public import proofs.«01_k».proof.Proof.Value.Mask
public import proofs.«01_k».proof.Proof.Value.Row

@[expose] public section

set_option maxRecDepth 16384

noncomputable section

namespace Cert.ReferenceIdeal.Read

open Cert.ReferenceIdeal Cert.ReferenceIdeal.Gen
open Idealize.ShloMosaic
open Idealize.ShloMosaic.TcCoe
open Idealize.ShloMosaic.Pointwise
open Cert.Mask

/-- Which key each query row keeps: one at most 128 away. -/
def near : IVec S512x2048 1 :=
  cmpi .sle (absi (subi (broadcastInDim S512x2048 ![0, 1] bcast_S512x1_S512x2048_0_1 (broadcastInDim S512x1 ![0] bcast_S512_S512x1_0 (iotaInDim S512 32 0)))
      (broadcastInDim S512x2048 ![0, 1] bcast_S1x2048_S512x2048_0_1 (broadcastInDim S1x2048 ![1] bcast_S2048_S1x2048_1 (iotaInDim S2048 32 0)))))
    (broadcastInDim S512x2048 ![] bcast_S_S512x2048 (constantI S_ 32 128#32))

/-- Whether a query row keeps any key. -/
def keeps : IVec S512 1 := Host.reduce IntOp.ori near (constantI S_ 1 0#1) reducesTo_S512x2048_S512_d1 h_S_

/-- The queries, by head. -/
def queries (X : FVec Ideal S2x512x768 .f32) (W : FVec Ideal S768x512 .f32) : FVec Ideal S2x512x8x64 .f32 :=
  shapeCast _ (Host.dotGeneral dot_S2x512x768_S768x512_S2x512x512_2_0_01_1_n_n none X W) shapeCasts_S2x512x512_S2x512x8x64

/-- The scaled and masked scores. -/
def scores (Q : FVec Ideal S2x512x8x64 .f32) (K : FVec Ideal S2x2048x8x64 .f32) : FVec Ideal S2x8x512x2048 .f32 :=
  select (broadcastInDim S2x8x512x2048 ![0, 1, 2, 3] bcast_S1x1x512x2048_S2x8x512x2048_0_1_2_3 (broadcastInDim S1x1x512x2048 ![2, 3] bcast_S512x2048_S1x1x512x2048_2_3 near))
    (mulf (Host.dotGeneral dot_S2x512x8x64_S2x2048x8x64_S2x8x512x2048_3_3_1_1_02_02 none Q K) (broadcastInDim S2x8x512x2048 ![] bcast_S_S2x8x512x2048 (constant S_ .f32 0x3E000000#32)))
    (broadcastInDim S2x8x512x2048 ![] bcast_S_S2x8x512x2048 (id (constant S_ .f32 0xFF800000#32)))

/-- The greatest score of each row. -/
def greatest (s : FVec Ideal S2x8x512x2048 .f32) : FVec Ideal S2x8x512 .f32 :=
  Host.reduce FloatOps.maximumf s (constant S_ .f32 0xFF800000#32) reducesTo_S2x8x512x2048_S2x8x512_d3 h_S_

/-- The weights before they are normalised. -/
def weights (s : FVec Ideal S2x8x512x2048 .f32) : FVec Ideal S2x8x512x2048 .f32 :=
  Host.exp (subf s (broadcastInDim S2x8x512x2048 ![0, 1, 2, 3] bcast_S2x8x512x1_S2x8x512x2048_0_1_2_3 (broadcastInDim S2x8x512x1 ![0, 1, 2] bcast_S2x8x512_S2x8x512x1_0_1_2 (greatest s))))

/-- Each row's sum of weights, one where the row keeps no key. -/
def sums (w : FVec Ideal S2x8x512x2048 .f32) : FVec Ideal S2x8x512x1 .f32 :=
  select (broadcastInDim S2x8x512x1 ![0, 1, 2, 3] bcast_S1x1x512x1_S2x8x512x1_0_1_2_3 (broadcastInDim S1x1x512x1 ![2] bcast_S512_S1x1x512x1_2 keeps))
    (broadcastInDim S2x8x512x1 ![0, 1, 2] bcast_S2x8x512_S2x8x512x1_0_1_2 (Host.reduceAdd w (constant S_ .f32 0x00000000#32) reducesTo_S2x8x512x2048_S2x8x512_d3 h_S_))
    (broadcastInDim S2x8x512x1 ![] bcast_S_S2x8x512x1 (id (constant S_ .f32 0x3F800000#32)))

/-- The normalised weights, zero where the row keeps no key. -/
def shares (w : FVec Ideal S2x8x512x2048 .f32) : FVec Ideal S2x8x512x2048 .f32 :=
  select (broadcastInDim S2x8x512x2048 ![0, 1, 2, 3] bcast_S1x1x512x1_S2x8x512x2048_0_1_2_3 (broadcastInDim S1x1x512x1 ![2] bcast_S512_S1x1x512x1_2 keeps))
    (Host.divf w (broadcastInDim S2x8x512x2048 ![0, 1, 2, 3] bcast_S2x8x512x1_S2x8x512x2048_0_1_2_3 (sums w)))
    (broadcastInDim S2x8x512x2048 ![] bcast_S_S2x8x512x2048 (id (constant S_ .f32 0x00000000#32)))

/-- The attention's context, heads side by side. -/
def context (V : FVec Ideal S2x2048x8x64 .f32) (p : FVec Ideal S2x8x512x2048 .f32) : FVec Ideal S2x512x512 .f32 :=
  shapeCast _ (transpose S2x512x8x64 [0, 3, 1, 2] (Host.dotGeneral dot_S2x2048x8x64_S2x8x512x2048_S2x8x64x512_1_3_3_2_02_01 none V p) transposes_S2x8x64x512_S2x512x8x64_0_3_1_2)
    shapeCasts_S2x512x8x64_S2x512x512

/-- The result. -/
def result (C : FVec Ideal S2x512x512 .f32) (O : FVec Ideal S512x768 .f32) : FVec Ideal S2x512x768 .f32 :=
  Host.dotGeneral dot_S2x512x512_S512x768_S2x512x768_2_0_01_1_n_n none C O

/-- The reference's result is these steps in turn. -/
theorem res_eq (m : (ℓ : Loc nD τ sig) → Buf (Elt Ideal) ℓ) (c : Dev nD) :
    Value.res_main_v34 m c = result (context (m ((c.tc : Thread nD τ).loc main_arg3))
      (shares (weights (scores (queries (m ((c.tc : Thread nD τ).loc main_arg0)) (m ((c.tc : Thread nD τ).loc main_arg1))) (m ((c.tc : Thread nD τ).loc main_arg2))))))
      (m ((c.tc : Thread nD τ).loc main_arg4)) := rfl

theorem near_at (i : Fin 512) (j : Fin 2048) : near (ix2 i j) = inside i j := by
  pointwise [near]
  exact distance i j i.isLt j.isLt

/-- Every row keeps a key: the one in its own place. -/
theorem keeps_at (i : Fin 512) : keeps (ix1 i) = 1#1 := by
  pointwise [keeps]
  refine fold_ori _ ⟨i, by omega⟩ ?_
  exact (near_at i ⟨i, by omega⟩).trans (inside_of _ _ ⟨Nat.le_add_right _ _, Nat.le_add_right _ _⟩)

theorem queries_at (X : FVec Ideal S2x512x768 .f32) (W : FVec Ideal S768x512 .f32) (b : Fin 2) (i : Fin 512) (h : Fin 8) (d : Fin 64) :
    queries X W (ix4 b i h d) = ∑ x, X (ix3 b i x) * W (ix2 x ⟨64 * h + d, by omega⟩) := by
  pointwise [queries]
  refine Finset.sum_congr rfl fun x _ => ?_
  congr 2; congr 1; exact Fin.ext (by simp only []; omega)

theorem scores_at (Q : FVec Ideal S2x512x8x64 .f32) (K : FVec Ideal S2x2048x8x64 .f32) (b : Fin 2) (h : Fin 8) (i : Fin 512) (j : Fin 2048) :
    scores Q K (ix4 b h i j) = Scalar.select (inside i j) ((∑ x, Q (ix4 b i h x) * K (ix4 b j h x)) * Ideal.ofBits .f32 0x3E000000#32) ⊥ := by
  pointwise [scores]
  rw [near_at]
  rfl

theorem greatest_at (s : FVec Ideal S2x8x512x2048 .f32) (b : Fin 2) (h : Fin 8) (i : Fin 512) :
    greatest s (ix3 b h i) = Row.top fun j => s (ix4 b h i j) := by
  pointwise [greatest]
  rfl

theorem weights_at (s : FVec Ideal S2x8x512x2048 .f32) (b : Fin 2) (h : Fin 8) (i : Fin 512) (j : Fin 2048) :
    weights s (ix4 b h i j) = Row.wt (fun j => s (ix4 b h i j)) j := by
  pointwise [weights]
  rw [greatest_at]
  rfl

theorem shares_at (w : FVec Ideal S2x8x512x2048 .f32) (b : Fin 2) (h : Fin 8) (i : Fin 512) (j : Fin 2048) :
    shares w (ix4 b h i j) = Ideal.div (w (ix4 b h i j)) (∑ x, w (ix4 b h i x)) := by
  pointwise [shares, sums]
  rw [keeps_at]
  rfl

theorem context_at (V : FVec Ideal S2x2048x8x64 .f32) (p : FVec Ideal S2x8x512x2048 .f32) (b : Fin 2) (i : Fin 512) (n : Fin 512) :
    context V p (ix3 b i n) = ∑ x, V (ix4 b x ⟨n / 64, by omega⟩ ⟨n % 64, by omega⟩) * p (ix4 b ⟨n / 64, by omega⟩ i x) := by
  pointwise [context]

theorem result_at (C : FVec Ideal S2x512x512 .f32) (O : FVec Ideal S512x768 .f32) (b : Fin 2) (i : Fin 512) (e : Fin 768) :
    result C O (ix3 b i e) = ∑ x, C (ix3 b i x) * O (ix2 x e) := by
  pointwise [result]

end Cert.ReferenceIdeal.Read

end

end
-- ==== Proof.Value.Head.lean ====
/-
# A head's attention is the reference's

Each of the kernel's scores is the reference's score of the same key, so a head's output
is the reference's context, provided that the inputs, query weights and keys are real.
-/
module

public import proofs.«01_k».proof.Proof.Value.Operands
public import proofs.«01_k».proof.Proof.Value.Reference

@[expose] public section

set_option maxRecDepth 16384

noncomputable section

namespace Cert.Head

open Cert.KernelIdeal Cert.KernelIdeal.Gen Cert.KernelIdeal.Run Cert.KernelIdeal.Read
open Cert.ReferenceIdeal (S2x2048x8x64)
open Cert.ReferenceIdeal.Read
open Cert.Row Cert.Mask
open Idealize.ShloMosaic
open Idealize.ShloMosaic.TcCoe
open Idealize.ShloMosaic.Pointwise

/-- A real value. -/
def Real (x : EReal) : Prop := ∃ r : ℝ, x = r

theorem Real.mul {x y : EReal} : Real x → Real y → Real (x * y) := fun ⟨a, ea⟩ ⟨b, eb⟩ => ⟨a * b, by rw [ea, eb, EReal.coe_mul]⟩

theorem Real.sum {ι : Type} (t : Finset ι) (f : ι → EReal) (h : ∀ i, Real (f i)) : Real (∑ i ∈ t, f i) := by
  classical
  induction t using Finset.induction_on with
  | empty => exact ⟨0, by simp⟩
  | insert a t ha ih =>
    obtain ⟨r, hr⟩ := ih
    obtain ⟨u, hu⟩ := h a
    exact ⟨u + r, by rw [Finset.sum_insert ha, hr, hu, EReal.coe_add]⟩

/-- One eighth is real. -/
theorem eighth : Real (Ideal.ofBits .f32 0x3E000000#32) := by
  simp only [Ideal.ofBits, Ideal.ieee]
  norm_num
  exact ⟨_, rfl⟩

variable (m : (ℓ : Loc Cert.KernelIdeal.nD Cert.KernelIdeal.τ Cert.KernelIdeal.sig) → Buf (Elt Ideal) ℓ)
variable (X : FVec Ideal S2x512x768 .f32) (W : FVec Ideal S768x512 .f32) (K V : FVec Ideal S2x2048x8x64 .f32)

/-- The devices hold the reference's arrays: device 0 all inputs, query weights and the first 512 keys and values,
device 1 the keys and values that follow, of which the first 128 matter. -/
structure Holds : Prop where
  x : ∀ i, xA m i = X i
  wq : ∀ i, wqA m i = W i
  k0 : ∀ b j h d, kA m 0 (ix4 b j h d) = K (ix4 b (lo j) h d)
  k1 : ∀ b (j : Fin 128) h d, kA m 1 (ix4 b ⟨j, by omega⟩ h d) = K (ix4 b (hi j) h d)
  v0 : ∀ b j h d, vA m 0 (ix4 b j h d) = V (ix4 b (lo j) h d)
  v1 : ∀ b (j : Fin 128) h d, vA m 1 (ix4 b ⟨j, by omega⟩ h d) = V (ix4 b (hi j) h d)

/-- The arrays the precondition is about are real, as far as they matter. -/
structure Finite : Prop where
  x : ∀ i, Real (X i)
  wq : ∀ i, Real (W i)
  k0 : ∀ b (j : Fin 512) h d, Real (K (ix4 b (lo j) h d))
  k1 : ∀ b (j : Fin 128) h d, Real (K (ix4 b (hi j) h d))

/-- The reference's scores of one query row. -/
def row (b : Fin 2) (h : Fin 8) (i : Fin 512) : Fin 2048 → EReal := fun j => scores (queries X W) K (ix4 b h i j)

variable {m X W K V}

theorem Finite.score (F : Finite X W K) (b : Fin 2) (h : Fin 8) (i : Fin 512) (j : Fin 2048) (hj : j.val < 640) :
    Real ((∑ x, queries X W (ix4 b i h x) * K (ix4 b j h x)) * Ideal.ofBits .f32 0x3E000000#32) := by
  refine Real.mul (Real.sum _ _ fun d => Real.mul ?_ ?_) eighth
  · rw [queries_at]
    exact Real.sum _ _ fun x => (F.x _).mul (F.wq _)
  · rcases cols j with ⟨a, rfl⟩ | ⟨a, rfl⟩ | hj'
    · exact F.k0 b a h d
    · exact F.k1 b a h d
    · omega

/-- A row has a real score in its own place, and ⊥ past column 639. -/
theorem Finite.good (F : Finite X W K) (b : Fin 2) (h : Fin 8) (i : Fin 512) : Good (row X W K b h i) where
  real j := by
    unfold row
    rw [scores_at]
    by_cases hn : i.val ≤ j.val + 128 ∧ j.val ≤ i.val + 128
    · rw [inside_of _ _ hn]
      exact .inr (F.score b h i j (by omega))
    · rw [inside_not _ _ hn]
      exact .inl rfl
  some := by
    refine ⟨⟨i, by omega⟩, ?_⟩
    unfold row
    rw [scores_at, inside_of _ _ ⟨Nat.le_add_right _ _, Nat.le_add_right _ _⟩]
    exact F.score b h i ⟨i, by omega⟩ (by simp only []; omega)
  far j hj := by
    unfold row
    rw [scores_at, inside_not _ _ (by omega)]
    rfl

/-- The kernel's queries are the reference's, -/
theorem Holds.query (H : Holds m X W K V) (b : Fin 2) (i : Fin 512) (h : Fin 8) (d : Fin 64) :
    qB m b (ix2 i ⟨64 * h + d, by omega⟩) = queries X W (ix4 b i h d) := by
  rw [qB_at, queries_at]
  exact Finset.sum_congr rfl fun x _ => congrArg₂ (· * ·) (H.x _) (H.wq _)

variable (m) in
/-- The kernel's scores of a head against device 0's keys, -/
def near0 (b : Fin 2) (h : Fin 8) : FVec Ideal Cert.KernelIdeal.S512x512 .f32 :=
  score0 (extractStridedSlice _ (hOff h) (qB m b) (hOff_slices h)) (extractStridedSlice _ (hOff h) (kB m b) (hOff_slices h))

variable (m) in
/-- and against device 1's. -/
def near1 (b : Fin 2) (h : Fin 8) : FVec Ideal Cert.KernelIdeal.S512x128 .f32 :=
  score1 (extractStridedSlice _ (hOff h) (qB m b) (hOff_slices h)) (extractStridedSlice _ (hOff h) (k1B m b) (hOff_slices1 h))

/-- They are the reference's. -/
theorem Holds.near0 (H : Holds m X W K V) (b : Fin 2) (h : Fin 8) (i : Fin 512) (j : Fin 512) :
    near0 m b h (ix2 i j) = row X W K b h i (lo j) := by
  unfold row Head.near0
  rw [score0_at, scores_at]
  refine congrArg (fun e => Scalar.select _ (e * _) _) (Finset.sum_congr rfl fun d _ => ?_)
  rw [cut_at, cut_at, H.query, kB_at, H.k0]

theorem Holds.near1 (H : Holds m X W K V) (b : Fin 2) (h : Fin 8) (i : Fin 512) (j : Fin 128) :
    near1 m b h (ix2 i j) = row X W K b h i (hi j) := by
  unfold row Head.near1
  rw [score1_at, scores_at]
  refine congrArg (fun e => Scalar.select _ (e * _) _) (Finset.sum_congr rfl fun d _ => ?_)
  rw [cut_at, cut1_at, H.query, k1B_at, H.k1]

theorem Holds.max (H : Holds m X W K V) (F : Finite X W K) (b : Fin 2) (h : Fin 8) (i : Fin 512) :
    rowMax (Head.near0 m b h) (Head.near1 m b h) (ix2 i 0) = top (row X W K b h i) := by
  rw [rowMax_at, top_cols _ (F.good b h i).far, funext fun j => H.near0 b h i j, funext fun j => H.near1 b h i j]

theorem Holds.wt0 (H : Holds m X W K V) (F : Finite X W K) (b : Fin 2) (h : Fin 8) (i : Fin 512) (j : Fin 512) :
    wt0 (Head.near0 m b h) (rowMax (Head.near0 m b h) (Head.near1 m b h)) (ix2 i j) = wt (row X W K b h i) (lo j) := by
  rw [wt0_at, H.max F, H.near0, wt]

theorem Holds.wt1 (H : Holds m X W K V) (F : Finite X W K) (b : Fin 2) (h : Fin 8) (i : Fin 512) (j : Fin 128) :
    wt1 (Head.near1 m b h) (rowMax (Head.near0 m b h) (Head.near1 m b h)) (ix2 i j) = wt (row X W K b h i) (hi j) := by
  rw [wt1_at, H.max F, H.near1, wt]

theorem headV_eq (b : Fin 2) (h : Fin 8) :
    headV m b h = mix (Run.wt0 (near0 m b h) (rowMax (near0 m b h) (near1 m b h))) (Run.wt1 (near1 m b h) (rowMax (near0 m b h) (near1 m b h)))
      (extractStridedSlice _ (hOff h) (vB m b) (hOff_slices h)) (extractStridedSlice _ (hOff h) (v1B m b) (hOff_slices1 h)) := rfl

/-- A head's output is the reference's mixture of the values. -/
theorem Holds.head (H : Holds m X W K V) (F : Finite X W K) (b : Fin 2) (h : Fin 8) (i : Fin 512) (d : Fin 64) :
    headV m b h (ix2 i d) = ∑ j, V (ix4 b j h d) * Ideal.div (wt (row X W K b h i) j) (∑ k, wt (row X W K b h i) k) := by
  rw [← (F.good b h i).mix fun j => V (ix4 b j h d), headV_eq, mix_at]
  refine congrArg₂ Ideal.div (congrArg₂ (· + ·) (Finset.sum_congr rfl fun j _ => congrArg₂ (· * ·) (H.wt0 F b h i j) ?_)
      (Finset.sum_congr rfl fun j _ => congrArg₂ (· * ·) (H.wt1 F b h i j) ?_))
    (congrArg₂ (· + ·) (Finset.sum_congr rfl fun j _ => H.wt0 F b h i j) (Finset.sum_congr rfl fun j _ => H.wt1 F b h i j))
  · rw [cut_at, vB_at, H.v0]
  · rw [cut1_at, v1B_at, H.v1]

/-- The reference's context is that mixture. -/
theorem context_row (b : Fin 2) (i : Fin 512) (n : Fin 512) :
    context V (shares (weights (scores (queries X W) K))) (ix3 b i n) =
      ∑ j, V (ix4 b j ⟨n / 64, by omega⟩ ⟨n % 64, by omega⟩) *
        Ideal.div (wt (row X W K b ⟨n / 64, by omega⟩ i) j) (∑ k, wt (row X W K b ⟨n / 64, by omega⟩ i) k) := by
  rw [context_at]
  refine Finset.sum_congr rfl fun j _ => congrArg (_ * ·) ?_
  rw [shares_at, weights_at]
  exact congrArg (Ideal.div _) (Finset.sum_congr rfl fun k _ => weights_at _ _ _ _ _)

end Cert.Head

end

end
-- ==== Proof.Value.Pre.lean ====
/-
# What the precondition gives: every input, query weight and key is real
-/
module

public import proofs.«01_k».proof.Proof.Gen.Pre_finite_KernelIdeal
public import Idealize.ShloMosaic.Lib.ReduceAll
public import Idealize.ShloMosaic.Lib.Pointwise

@[expose] public section

set_option maxRecDepth 16384

noncomputable section

namespace Cert.Pre_finite_KernelIdeal.Read

open Cert.Pre_finite_KernelIdeal
open Idealize.ShloMosaic
open Idealize.ShloMosaic.Pointwise

/-- A value whose absolute value is below ⊤ is real. -/
theorem real_of_lt {x : EReal} (h : Ideal.cmp .olt (max x (-x)) (Ideal.ofBits .f32 0x7F800000#32) = 1#1) : ∃ r : ℝ, x = r := by
  have e : (Ideal.ofBits .f32 0x7F800000#32 : EReal) = ⊤ := rfl
  have hlt : max x (-x) < ⊤ := by
    by_contra hn
    rw [e] at h
    unfold Ideal.cmp at h
    simp [hn] at h
  induction x with
  | bot => simp at hlt
  | top => simp at hlt
  | coe r => exact ⟨r, rfl⟩

/-- Every input, query weight and key of a device that meets it. -/
theorem split (a0 : FVec Ideal S2x512x768 .f32) (a1 : FVec Ideal S768x512 .f32) (a2 a3 : FVec Ideal S2x512x8x64 .f32) (a4 : FVec Ideal S512x768 .f32)
    (h : fn (F := Ideal) a0 a1 a2 a3 a4 = fun _ => 1#1) :
    (∀ i, ∃ r : ℝ, a0 i = r) ∧ (∀ i, ∃ r : ℝ, a1 i = r) ∧ ∀ i, ∃ r : ℝ, a2 i = r := by
  have e := congrFun h ix0
  dsimp only [fn] at e
  obtain ⟨e01, e2⟩ := IntOp.andi_eq_one.mp e
  obtain ⟨e0, e1⟩ := IntOp.andi_eq_one.mp e01
  exact ⟨fun i => real_of_lt (Host.reduce_andi_all _ _ _ _ _ e0 i), fun i => real_of_lt (Host.reduce_andi_all _ _ _ _ _ e1 i),
    fun i => real_of_lt (Host.reduce_andi_all _ _ _ _ _ e2 i)⟩

end Cert.Pre_finite_KernelIdeal.Read

end

end
-- ==== Proof.Value.Equal.lean ====
/-
# Every device's result is the reference's

From what the claim says of the two memories: each device's arguments are the reference's,
or its block of them, and the precondition holds.
-/
module

public import proofs.«01_k».proof.Proof.Value.Head
public import proofs.«01_k».proof.Proof.Value.Pre

@[expose] public section

set_option maxRecDepth 16384

noncomputable section

namespace Cert.Head

open Cert.KernelIdeal Cert.KernelIdeal.Run Cert.KernelIdeal.Read
open Cert.ReferenceIdeal (S2x2048x8x64)
open Cert.ReferenceIdeal.Read
open Cert.Row
open Idealize.ShloMosaic
open Idealize.ShloMosaic.TcCoe
open Idealize.ShloMosaic.Pointwise

variable {m : (ℓ : Loc nD τ sig) → Buf (Elt Ideal) ℓ}
variable {X : FVec Ideal S2x512x768 .f32} {W : FVec Ideal S768x512 .f32} {K V : FVec Ideal S2x2048x8x64 .f32}

/-- An entry of the result of a device whose output weights are the reference's, -/
theorem Holds.out_at (H : Holds m X W K V) (F : Finite X W K) (c : Dev nD) (O : FVec Ideal S512x768 .f32) (hO : ∀ i, woA m c i = O i)
    (b : Fin 2) (i : Fin 512) (e : Fin 768) :
    (outV m c : FVec Ideal S2x512x768 .f32) (ix3 b i e) = result (context V (shares (weights (scores (queries X W) K)))) O (ix3 b i e) := by
  rw [result_at]
  have ht : ∀ n, term m c b i e n = context V (shares (weights (scores (queries X W) K))) (ix3 b i n) * O (ix2 n e) := fun n => by
    rw [context_row, term, H.head F, hO]
  exact (outV_at m c b i e).trans (Finset.sum_congr (M := EReal) rfl fun n _ => ht n)

/-- and the whole of it. -/
theorem Holds.out (H : Holds m X W K V) (F : Finite X W K) (c : Dev nD) (O : FVec Ideal S512x768 .f32) (hO : ∀ i, woA m c i = O i) :
    (outV m c : FVec Ideal S2x512x768 .f32) = result (context V (shares (weights (scores (queries X W) K)))) O :=
  funext fun j => (congrArg _ (eq_ix3 (n0 := 2) (n1 := 512) (n2 := 768) j)).trans
    ((H.out_at F c O hO _ _ _).trans (congrArg _ (eq_ix3 (n0 := 2) (n1 := 512) (n2 := 768) j).symm))

/-- The element of device `c`'s block of an array cut into four along its second axis. -/
theorem block_at (A : FVec Ideal S2x2048x8x64 .f32) (c : Fin 4) (b : Fin 2) (j : Fin 512) (h : Fin 8) (d : Fin 64) (t) :
    Layout.block ⟨4, ![2, 512, 8, 64]⟩ ⟨4, ![2, 2048, 8, 64]⟩ 1 4 c A t (ix4 b j h d) = A (ix4 b ⟨c * 512 + j, by omega⟩ h d) := by
  rw [Layout.block_apply]
  refine congrArg A ?_
  funext a
  match a with
  | ⟨0, _⟩ => rfl
  | ⟨1, _⟩ => rfl
  | ⟨2, _⟩ => rfl
  | ⟨3, _⟩ => rfl

/-- The two devices whose keys and values matter hold the reference's, -/
theorem holds_of (hx : xA m = X) (hw : wqA m = W)
    (hk : ∀ c : Dev nD, kA m c = Layout.block ⟨4, ![2, 512, 8, 64]⟩ ⟨4, ![2, 2048, 8, 64]⟩ 1 4 c K)
    (hv : ∀ c : Dev nD, vA m c = Layout.block ⟨4, ![2, 512, 8, 64]⟩ ⟨4, ![2, 2048, 8, 64]⟩ 1 4 c V) : Holds m X W K V where
  x i := congrFun hx i
  wq i := congrFun hw i
  k0 b j h d := (congrFun (hk 0) _).trans ((block_at K 0 b j h d _).trans (congrArg (fun n => K (ix4 b n h d)) (Fin.ext (Nat.zero_add _))))
  k1 b j h d := (congrFun (hk 1) _).trans (block_at K 1 b ⟨j, by omega⟩ h d _)
  v0 b j h d := (congrFun (hv 0) _).trans ((block_at V 0 b j h d _).trans (congrArg (fun n => V (ix4 b n h d)) (Fin.ext (Nat.zero_add _))))
  v1 b j h d := (congrFun (hv 1) _).trans (block_at V 1 b ⟨j, by omega⟩ h d _)

/-- and the precondition makes what it is about real. -/
theorem finite_of (H : Holds m X W K V)
    (hp : ∀ c : Dev nD, Cert.Pre_finite_KernelIdeal.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Finite X W K where
  x i := H.x i ▸ (Cert.Pre_finite_KernelIdeal.Read.split _ _ _ _ _ (hp 0)).1 i
  wq i := H.wq i ▸ (Cert.Pre_finite_KernelIdeal.Read.split _ _ _ _ _ (hp 0)).2.1 i
  k0 b j h d := H.k0 b j h d ▸ (Cert.Pre_finite_KernelIdeal.Read.split _ _ _ _ _ (hp 0)).2.2 (ix4 b j h d)
  k1 b j h d := H.k1 b j h d ▸ (Cert.Pre_finite_KernelIdeal.Read.split _ _ _ _ _ (hp 1)).2.2 (ix4 b ⟨j, by omega⟩ h d)

end Cert.Head

end

end
-- ==== Proof.lean ====
/-
# The claims, assembled

The runs of the two kernels and of the reference give the frames; with the equation of the
results they give the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Kernel.Final
public import proofs.«01_k».proof.Proof.KernelIdeal.Final
public import proofs.«01_k».proof.Proof.Value.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over the words: it ends, its arguments as they were, every counter at zero. -/
theorem frame_Kernel : Cert.quiescent_Kernel := fun m ρ _ =>
  (θ_run Cert.Kernel.defs _ _).mono (fun _ h => ⟨fun c => (h.1 c).2, h.2⟩) (Cert.Kernel.Run.run (F := Bits) m ρ)

/-- The same over the extended reals. -/
theorem frame_KernelIdeal : Cert.quiescent_KernelIdeal := fun m ρ _ =>
  (θ_run Cert.KernelIdeal.defs _ _).mono (fun _ h => ⟨fun c => (h.1 c).2, h.2⟩) (Cert.KernelIdeal.Run.run (F := Ideal) m ρ)

/-- The reference, which has no counter. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant is the named −∞. -/
theorem preserves : Cert.preserves_Kernel_KernelIdeal := IdealRules.named_const.statement _ _ _ _ _ rfl

/-- Under the precondition `finite` every device's result is the reference's. -/
theorem algebraic : Cert.algebraic_KernelIdeal_ReferenceIdeal_pre_finite_KernelIdeal := fun m ρ m' ρ' hp ha => by
  have H := Cert.Head.holds_of (m := m) (ha 0).1 (ha 0).2.1 (fun c => (ha c).2.2.1) (fun c => (ha c).2.2.2.1)
  have F := Cert.Head.finite_of H hp
  refine ⟨Cert.ReferenceIdeal.Value.res_main_v34 m' 0, ?_, ?_⟩
  · refine (θ_run Cert.KernelIdeal.defs _ _).mono (fun _ h c => ⟨(h.1 c).1.trans ?_, (h.1 c).2⟩) (Cert.KernelIdeal.Run.run (F := Ideal) m ρ)
    exact (H.out F c _ fun i => congrFun (ha c).2.2.2.2 i).trans (Cert.ReferenceIdeal.Read.res_eq m' 0).symm
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_Kernel, frame_KernelIdeal, fun m ρ _ => frame_KernelIdeal m ρ trivial,
  frame_ReferenceIdeal, fun m ρ _ => frame_ReferenceIdeal m ρ trivial, preserves, algebraic⟩

end Cert.Proof

end
